-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__finite_inputs [hPre__finite_inputs : Cert.Pre__finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre__finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre__finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre__finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__finite_inputs [hPre__finite_inputs : Cert.Pre__finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre__finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre__finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre__finite_inputs [hKernelIdeal : Cert.KernelIdeal.Facts] [hPre__finite_inputs : Cert.Pre__finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre__finite_inputs [hReferenceIdeal : Cert.ReferenceIdeal.Facts] [hPre__finite_inputs : Cert.Pre__finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_base2" .f32 0x3E38AA3B#32 (((8 * (Real.log 2))⁻¹ : ℝ) : EReal)
  ∧ IdealRules.named_const.Statement Cert.KernelIdeal.κ "p_shift" .f32 0x42317218#32 ((64 * (Real.log 2) : ℝ) : EReal)

def algebraic_KernelIdeal_ReferenceIdeal_pre__finite_inputs [hKernelIdeal : Cert.KernelIdeal.Facts] [hReferenceIdeal : Cert.ReferenceIdeal.Facts] [hPre__finite_inputs : Cert.Pre__finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v172) = v4 c
          ∧ r.2.mem ((c.tc : Thread Cert.ReferenceIdeal.nD Cert.ReferenceIdeal.τ).loc Cert.ReferenceIdeal.main_v173) = v5 c
          ∧ r.2.mem ((c.tc : Thread Cert.ReferenceIdeal.nD Cert.ReferenceIdeal.τ).loc Cert.ReferenceIdeal.main_v176) = v6 c
          ∧ r.2.mem ((c.tc : Thread Cert.ReferenceIdeal.nD Cert.ReferenceIdeal.τ).loc Cert.ReferenceIdeal.main_v95) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre__finite_inputs : Cert.Pre__finite_inputs.Facts),
    quiescent_Kernel (hKernel := hKernel)
    ∧ quiescent_KernelIdeal (hKernelIdeal := hKernelIdeal)
    ∧ quiescent_KernelIdeal_pre__finite_inputs (hKernelIdeal := hKernelIdeal) (hPre__finite_inputs := hPre__finite_inputs)
    ∧ quiescent_ReferenceIdeal (hReferenceIdeal := hReferenceIdeal)
    ∧ quiescent_ReferenceIdeal_pre__finite_inputs (hReferenceIdeal := hReferenceIdeal) (hPre__finite_inputs := hPre__finite_inputs)
    ∧ preserves_Kernel_KernelIdeal
    ∧ algebraic_KernelIdeal_ReferenceIdeal_pre__finite_inputs (hKernelIdeal := hKernelIdeal) (hReferenceIdeal := hReferenceIdeal) (hPre__finite_inputs := hPre__finite_inputs)
-- ==== Pre__finite_inputs.lean ====
abbrev S3x640x2560 : Shape := ⟨3, ![3, 640, 2560]⟩
abbrev S3x640x512 : Shape := ⟨3, ![3, 640, 512]⟩
abbrev S_ : Shape := ⟨0, ![]⟩

class Facts : Prop where
  bcast_S_S3x640x2560 : S_.BroadcastsInDim S3x640x2560 (![] : Fin 0 → Fin S3x640x2560.rank)
  bcast_S_S3x640x512 : S_.BroadcastsInDim S3x640x512 (![] : Fin 0 → Fin S3x640x512.rank)

variable [Facts]

def fn {F : FTy → Type} [FloatOps F] (main_arg0 : FVec F S3x640x2560 .bf16) (main_arg1 : FVec F S3x640x512 .bf16) (main_arg2 : FVec F S3x640x512 .bf16) : IVec S3x640x2560 1 × IVec S3x640x512 1 × IVec S3x640x512 1 :=
  let main_v0 : FVec F S3x640x2560 .bf16 := Host.absf main_arg0
  let main_cst : FVec F S_ .bf16 := constant S_ .bf16 0x7F7F#16
  let main_v1 : FVec F S3x640x2560 .bf16 := broadcastInDim S3x640x2560 ![] bcast_S_S3x640x2560 main_cst
  let main_v2 : IVec S3x640x2560 1 := cmpf .ole main_v0 main_v1
  let main_v3 : FVec F S3x640x512 .bf16 := Host.absf main_arg1
  let main_cst_0 : FVec F S_ .bf16 := constant S_ .bf16 0x7F7F#16
  let main_v4 : FVec F S3x640x512 .bf16 := broadcastInDim S3x640x512 ![] bcast_S_S3x640x512 main_cst_0
  let main_v5 : IVec S3x640x512 1 := cmpf .ole main_v3 main_v4
  let main_v6 : FVec F S3x640x512 .bf16 := Host.absf main_arg2
  let main_cst_1 : FVec F S_ .bf16 := constant S_ .bf16 0x7F7F#16
  let main_v7 : FVec F S3x640x512 .bf16 := broadcastInDim S3x640x512 ![] bcast_S_S3x640x512 main_cst_1
  let main_v8 : IVec S3x640x512 1 := cmpf .ole main_v6 main_v7
  (main_v2, main_v5, main_v8)
-- ==== Kernel.lean ====
abbrev S3x640x2560 : Shape := ⟨3, ![3, 640, 2560]⟩
abbrev S3x640x512 : Shape := ⟨3, ![3, 640, 512]⟩
abbrev S3x640 : Shape := ⟨2, ![3, 640]⟩
abbrev S3x2560x640 : Shape := ⟨3, ![3, 2560, 640]⟩
abbrev S3x40x640 : Shape := ⟨3, ![3, 40, 640]⟩
abbrev S3x512x640 : Shape := ⟨3, ![3, 512, 640]⟩
abbrev S3x8x640 : Shape := ⟨3, ![3, 8, 640]⟩
abbrev S3x8x64 : Shape := ⟨3, ![3, 8, 64]⟩
abbrev S1x128x2560 : Shape := ⟨3, ![1, 128, 2560]⟩
abbrev S1x640x512 : Shape := ⟨3, ![1, 640, 512]⟩
abbrev S1x2560x128 : Shape := ⟨3, ![1, 2560, 128]⟩
abbrev S1x40x128 : Shape := ⟨3, ![1, 40, 128]⟩
abbrev S1x512x640 : Shape := ⟨3, ![1, 512, 640]⟩
abbrev S1x8x640 : Shape := ⟨3, ![1, 8, 640]⟩
abbrev S1x8x64 : Shape := ⟨3, ![1, 8, 64]⟩
abbrev S8x640x64 : Shape := ⟨3, ![8, 640, 64]⟩
abbrev S8x640x128 : Shape := ⟨3, ![8, 640, 128]⟩
abbrev S512x128 : Shape := ⟨2, ![512, 128]⟩
abbrev S2560x128 : Shape := ⟨2, ![2560, 128]⟩
abbrev S1x640x64 : Shape := ⟨3, ![1, 640, 64]⟩
abbrev S640x64 : Shape := ⟨2, ![640, 64]⟩
abbrev S64x640 : Shape := ⟨2, ![64, 640]⟩
abbrev S640 : Shape := ⟨1, ![640]⟩
abbrev S1x640 : Shape := ⟨2, ![1, 640]⟩
abbrev S255x1 : Shape := ⟨2, ![255, 1]⟩
abbrev S255x640 : Shape := ⟨2, ![255, 640]⟩
abbrev S1x64x640 : Shape := ⟨3, ![1, 64, 640]⟩
abbrev S1x1x640 : Shape := ⟨3, ![1, 1, 640]⟩
abbrev S128x640 : Shape := ⟨2, ![128, 640]⟩
abbrev S640x128 : Shape := ⟨2, ![640, 128]⟩
abbrev S1x640x128 : Shape := ⟨3, ![1, 640, 128]⟩
abbrev S64 : Shape := ⟨1, ![64]⟩
abbrev S1x64 : Shape := ⟨2, ![1, 64]⟩
abbrev S255x64 : Shape := ⟨2, ![255, 64]⟩
abbrev S1x1x64 : Shape := ⟨3, ![1, 1, 64]⟩
abbrev S128x64 : Shape := ⟨2, ![128, 64]⟩
abbrev S64x128 : Shape := ⟨2, ![64, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S255x128 : Shape := ⟨2, ![255, 128]⟩
abbrev S1x64x128 : Shape := ⟨3, ![1, 64, 128]⟩
abbrev S1x1x128 : Shape := ⟨3, ![1, 1, 128]⟩
abbrev S64x256 : Shape := ⟨2, ![64, 256]⟩
abbrev S1x256 : Shape := ⟨2, ![1, 256]⟩
abbrev S640x256 : Shape := ⟨2, ![640, 256]⟩
abbrev S256 : Shape := ⟨1, ![256]⟩

abbrev nBuf : Space → Nat
  | .hbm => 11
  | .vmem => 25
  | .smem => 0
  | _ => 0

abbrev bufTy : (tb : Table) → Fin (tcTables nBuf tb) → BufTy
  | .hbm, ⟨0, _⟩ => ⟨S3x640x2560, .bf16⟩
  | .hbm, ⟨1, _⟩ => ⟨S3x640x512, .bf16⟩
  | .hbm, ⟨2, _⟩ => ⟨S3x640x512, .bf16⟩
  | .hbm, ⟨3, _⟩ => ⟨S3x640x2560, .fp8e4m3⟩
  | .hbm, ⟨4, _⟩ => ⟨S3x640, .f32⟩
  | .hbm, ⟨5, _⟩ => ⟨S3x2560x640, .fp8e4m3⟩
  | .hbm, ⟨6, _⟩ => ⟨S3x40x640, .f32⟩
  | .hbm, ⟨7, _⟩ => ⟨S3x512x640, .fp8e4m3⟩
  | .hbm, ⟨8, _⟩ => ⟨S3x8x640, .f32⟩
  | .hbm, ⟨9, _⟩ => ⟨S3x512x640, .fp8e4m3⟩
  | .hbm, ⟨10, _⟩ => ⟨S3x8x64, .f32⟩
  | .local _ .vmem, ⟨0, _⟩ => ⟨S1x128x2560, .bf16⟩
  | .local _ .vmem, ⟨1, _⟩ => ⟨S1x128x2560, .bf16⟩
  | .local _ .vmem, ⟨2, _⟩ => ⟨S1x640x512, .bf16⟩
  | .local _ .vmem, ⟨3, _⟩ => ⟨S1x640x512, .bf16⟩
  | .local _ .vmem, ⟨4, _⟩ => ⟨S1x640x512, .bf16⟩
  | .local _ .vmem, ⟨5, _⟩ => ⟨S1x640x512, .bf16⟩
  | .local _ .vmem, ⟨6, _⟩ => ⟨S1x128x2560, .fp8e4m3⟩
  | .local _ .vmem, ⟨7, _⟩ => ⟨S1x128x2560, .fp8e4m3⟩
  | .local _ .vmem, ⟨8, _⟩ => ⟨S3x640, .f32⟩
  | .local _ .vmem, ⟨9, _⟩ => ⟨S1x2560x128, .fp8e4m3⟩
  | .local _ .vmem, ⟨10, _⟩ => ⟨S1x2560x128, .fp8e4m3⟩
  | .local _ .vmem, ⟨11, _⟩ => ⟨S1x40x128, .f32⟩
  | .local _ .vmem, ⟨12, _⟩ => ⟨S1x40x128, .f32⟩
  | .local _ .vmem, ⟨13, _⟩ => ⟨S1x512x640, .fp8e4m3⟩
  | .local _ .vmem, ⟨14, _⟩ => ⟨S1x512x640, .fp8e4m3⟩
  | .local _ .vmem, ⟨15, _⟩ => ⟨S1x8x640, .f32⟩
  | .local _ .vmem, ⟨16, _⟩ => ⟨S1x8x640, .f32⟩
  | .local _ .vmem, ⟨17, _⟩ => ⟨S1x512x640, .fp8e4m3⟩
  | .local _ .vmem, ⟨18, _⟩ => ⟨S1x512x640, .fp8e4m3⟩
  | .local _ .vmem, ⟨19, _⟩ => ⟨S1x8x64, .f32⟩
  | .local _ .vmem, ⟨20, _⟩ => ⟨S1x8x64, .f32⟩
  | .local _ .vmem, ⟨21, _⟩ => ⟨S8x640x64, .fp8e4m3⟩
  | .local _ .vmem, ⟨22, _⟩ => ⟨S8x640x128, .f32⟩
  | .local _ .vmem, ⟨23, _⟩ => ⟨S512x128, .f32⟩
  | .local _ .vmem, ⟨24, _⟩ => ⟨S2560x128, .f32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![3, 5], ![false, false]⟩

def k0_cond2 (i : grid0.Coords) : BitVec 1 :=
  let arg0 : BitVec 32 := BitVec.ofNat 32 (i 0).val
  let c0_i32_1420 : BitVec 32 := 0#32
  let v3364 : BitVec 1 := Scalar.cmpi .eq arg0 c0_i32_1420
  let v3365 : BitVec 32 := Scalar.extui v3364
  let c0_i32_1421 : BitVec 32 := 0#32
  let v3366 : BitVec 1 := Scalar.cmpi .ne v3365 c0_i32_1421
  v3366

def k0_mult1 (i : grid0.Coords) : BitVec 32 :=
  let arg1 : BitVec 32 := BitVec.ofNat 32 (i 1).val
  let c128_i32 : BitVec 32 := 128#32
  let v3813 : BitVec 32 := Scalar.muli arg1 c128_i32
  v3813
def k0_off1 (i : grid0.Coords) : Fin 2 → Nat :=
  let c0_1645 : Index := 0#32
  let arg1 : BitVec 32 := BitVec.ofNat 32 (i 1).val
  let c128_i32 : BitVec 32 := 128#32
  let v3813 : BitVec 32 := Scalar.muli arg1 c128_i32
  let v3814 : BitVec 32 := v3813
  let v3815 : Index := Scalar.indexCast v3814
  ![0, v3815.toNat]
def k0_cond3 (i : grid0.Coords) : BitVec 1 :=
  let arg0 : BitVec 32 := BitVec.ofNat 32 (i 0).val
  let c1_i32_1422 : BitVec 32 := 1#32
  let v3367 : BitVec 1 := Scalar.cmpi .eq arg0 c1_i32_1422
  let v3368 : BitVec 32 := Scalar.extui v3367
  let c0_i32_1423 : BitVec 32 := 0#32
  let v3369 : BitVec 1 := Scalar.cmpi .ne v3368 c0_i32_1423
  v3369

def k0_mult2 (i : grid0.Coords) : BitVec 32 :=
  let arg1 : BitVec 32 := BitVec.ofNat 32 (i 1).val
  let c128_i32 : BitVec 32 := 128#32
  let v3813 : BitVec 32 := Scalar.muli arg1 c128_i32
  v3813
def k0_off2 (i : grid0.Coords) : Fin 2 → Nat :=
  let c1_1645 : Index := 1#32
  let arg1 : BitVec 32 := BitVec.ofNat 32 (i 1).val
  let c128_i32 : BitVec 32 := 128#32
  let v3813 : BitVec 32 := Scalar.muli arg1 c128_i32
  let v3814 : BitVec 32 := v3813
  let v3815 : Index := Scalar.indexCast v3814
  ![1, v3815.toNat]
def k0_cond4 (i : grid0.Coords) : BitVec 1 :=
  let arg0 : BitVec 32 := BitVec.ofNat 32 (i 0).val
  let c2_i32 : BitVec 32 := 2#32
  let v3370 : BitVec 1 := Scalar.cmpi .eq arg0 c2_i32
  let v3371 : BitVec 32 := Scalar.extui v3370
  let c0_i32_1424 : BitVec 32 := 0#32
  let v3372 : BitVec 1 := Scalar.cmpi .ne v3371 c0_i32_1424
  v3372

def k0_mult3 (i : grid0.Coords) : BitVec 32 :=
  let arg1 : BitVec 32 := BitVec.ofNat 32 (i 1).val
  let c128_i32 : BitVec 32 := 128#32
  let v3813 : BitVec 32 := Scalar.muli arg1 c128_i32
  v3813
def k0_off3 (i : grid0.Coords) : Fin 2 → Nat :=
  let c2_1645 : Index := 2#32
  let arg1 : BitVec 32 := BitVec.ofNat 32 (i 1).val
  let c128_i32 : BitVec 32 := 128#32
  let v3813 : BitVec 32 := Scalar.muli arg1 c128_i32
  let v3814 : BitVec 32 := v3813
  let v3815 : Index := Scalar.indexCast v3814
  ![2, v3815.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2560x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x640 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "p_shift" => some ((64 * (Real.log 2) : ℝ) : EReal)
  | "score_base2" => some (((8 * (Real.log 2))⁻¹ : ℝ) : EReal)
  | _ => none
-- ==== ReferenceIdeal.lean ====
abbrev S3x640x2560 : Shape := ⟨3, ![3, 640, 2560]⟩
abbrev S3x640x512 : Shape := ⟨3, ![3, 640, 512]⟩
abbrev S3x640x40x64 : Shape := ⟨4, ![3, 640, 40, 64]⟩
abbrev S_ : Shape := ⟨0, ![]⟩
abbrev S3x640x40 : Shape := ⟨3, ![3, 640, 40]⟩
abbrev S3x640x40x1 : Shape := ⟨4, ![3, 640, 40, 1]⟩
abbrev S3x640x8x64 : Shape := ⟨4, ![3, 640, 8, 64]⟩
abbrev S3x640x8 : Shape := ⟨3, ![3, 640, 8]⟩
abbrev S3x640x8x1 : Shape := ⟨4, ![3, 640, 8, 1]⟩
abbrev S3x8x64 : Shape := ⟨3, ![3, 8, 64]⟩
abbrev S3x1x8x64 : Shape := ⟨4, ![3, 1, 8, 64]⟩
abbrev S3x640x8x5x64 : Shape := ⟨5, ![3, 640, 8, 5, 64]⟩
abbrev S3x8x5x640x64 : Shape := ⟨5, ![3, 8, 5, 640, 64]⟩
abbrev S3x640x8x5 : Shape := ⟨4, ![3, 640, 8, 5]⟩
abbrev S3x8x5x640 : Shape := ⟨4, ![3, 8, 5, 640]⟩
abbrev S3x8x640x64 : Shape := ⟨4, ![3, 8, 640, 64]⟩
abbrev S3x8x640 : Shape := ⟨3, ![3, 8, 640]⟩
abbrev S3x8x1x1x640 : Shape := ⟨5, ![3, 8, 1, 1, 640]⟩
abbrev S3x8x1x1x64 : Shape := ⟨5, ![3, 8, 1, 1, 64]⟩
abbrev S3x8x5x640x640 : Shape := ⟨5, ![3, 8, 5, 640, 640]⟩
abbrev S3x8x5x640x1 : Shape := ⟨5, ![3, 8, 5, 640, 1]⟩
abbrev S3x640 : Shape := ⟨2, ![3, 640]⟩
abbrev S3x640x1 : Shape := ⟨3, ![3, 640, 1]⟩
abbrev S3x2560x640 : Shape := ⟨3, ![3, 2560, 640]⟩
abbrev S3x40x640 : Shape := ⟨3, ![3, 40, 640]⟩
abbrev S3x512x640 : Shape := ⟨3, ![3, 512, 640]⟩

abbrev nBuf : Space → Nat
  | .hbm => 231
  | .vmem => 0
  | .smem => 0
  | _ => 0

abbrev hbmTy0_0 (i : Nat) : BufTy := match i % 128 with
  | 0 => ⟨S3x640x2560, .bf16⟩
  | 1 => ⟨S3x640x512, .bf16⟩
  | 2 => ⟨S3x640x512, .bf16⟩
  | 3 => ⟨S3x640x40x64, .bf16⟩
  | 4 => ⟨S3x640x40x64, .f32⟩
  | 5 => ⟨S3x640x40x64, .f32⟩
  | 6 => ⟨S_, .f32⟩
  | 7 => ⟨S3x640x40, .f32⟩
  | 8 => ⟨S3x640x40x1, .f32⟩
  | 9 => ⟨S_, .f32⟩
  | 10 => ⟨S3x640x40x1, .f32⟩
  | 11 => ⟨S3x640x40x1, .f32⟩
  | 12 => ⟨S3x640x40x1, .f32⟩
  | 13 => ⟨S_, .f32⟩
  | 14 => ⟨S_, .f32⟩
  | 15 => ⟨S3x640x40x1, .f32⟩
  | 16 => ⟨S3x640x40x1, .f32⟩
  | 17 => ⟨S3x640x40x1, .f32⟩
  | 18 => ⟨S_, .f32⟩
  | 19 => ⟨S3x640x40x1, .f32⟩
  | 20 => ⟨S3x640x40x1, .f32⟩
  | 21 => ⟨S_, .f32⟩
  | 22 => ⟨S3x640x40x1, .f32⟩
  | 23 => ⟨S3x640x40x1, .i1⟩
  | 24 => ⟨S_, .f32⟩
  | 25 => ⟨S3x640x40x1, .f32⟩
  | 26 => ⟨S_, .f32⟩
  | 27 => ⟨S3x640x40x1, .f32⟩
  | 28 => ⟨S3x640x40x1, .f32⟩
  | 29 => ⟨S3x640x40x1, .f32⟩
  | 30 => ⟨S3x640x40x1, .f32⟩
  | 31 => ⟨S_, .f32⟩
  | 32 => ⟨S3x640x40x1, .f32⟩
  | 33 => ⟨S3x640x40x1, .f32⟩
  | 34 => ⟨S3x640x40x64, .f32⟩
  | 35 => ⟨S3x640x40x64, .f32⟩
  | 36 => ⟨S_, .f32⟩
  | 37 => ⟨S3x640x40x64, .f32⟩
  | 38 => ⟨S3x640x40x64, .f32⟩
  | 39 => ⟨S_, .f32⟩
  | 40 => ⟨S3x640x40x64, .f32⟩
  | 41 => ⟨S3x640x40x64, .f32⟩
  | 42 => ⟨S_, .f32⟩
  | 43 => ⟨S3x640x40x1, .f32⟩
  | 44 => ⟨S3x640x40x1, .f32⟩
  | 45 => ⟨S3x640x40, .f32⟩
  | 46 => ⟨S3x640x8x64, .bf16⟩
  | 47 => ⟨S3x640x8x64, .f32⟩
  | 48 => ⟨S3x640x8x64, .f32⟩
  | 49 => ⟨S_, .f32⟩
  | 50 => ⟨S3x640x8, .f32⟩
  | 51 => ⟨S3x640x8x1, .f32⟩
  | 52 => ⟨S_, .f32⟩
  | 53 => ⟨S3x640x8x1, .f32⟩
  | 54 => ⟨S3x640x8x1, .f32⟩
  | 55 => ⟨S3x640x8x1, .f32⟩
  | 56 => ⟨S_, .f32⟩
  | 57 => ⟨S_, .f32⟩
  | 58 => ⟨S3x640x8x1, .f32⟩
  | 59 => ⟨S3x640x8x1, .f32⟩
  | 60 => ⟨S3x640x8x1, .f32⟩
  | 61 => ⟨S_, .f32⟩
  | 62 => ⟨S3x640x8x1, .f32⟩
  | 63 => ⟨S3x640x8x1, .f32⟩
  | 64 => ⟨S_, .f32⟩
  | 65 => ⟨S3x640x8x1, .f32⟩
  | 66 => ⟨S3x640x8x1, .i1⟩
  | 67 => ⟨S_, .f32⟩
  | 68 => ⟨S3x640x8x1, .f32⟩
  | 69 => ⟨S_, .f32⟩
  | 70 => ⟨S3x640x8x1, .f32⟩
  | 71 => ⟨S3x640x8x1, .f32⟩
  | 72 => ⟨S3x640x8x1, .f32⟩
  | 73 => ⟨S3x640x8x1, .f32⟩
  | 74 => ⟨S_, .f32⟩
  | 75 => ⟨S3x640x8x1, .f32⟩
  | 76 => ⟨S3x640x8x1, .f32⟩
  | 77 => ⟨S3x640x8x64, .f32⟩
  | 78 => ⟨S3x640x8x64, .f32⟩
  | 79 => ⟨S_, .f32⟩
  | 80 => ⟨S3x640x8x64, .f32⟩
  | 81 => ⟨S3x640x8x64, .f32⟩
  | 82 => ⟨S_, .f32⟩
  | 83 => ⟨S3x640x8x64, .f32⟩
  | 84 => ⟨S3x640x8x64, .f32⟩
  | 85 => ⟨S_, .f32⟩
  | 86 => ⟨S3x640x8x1, .f32⟩
  | 87 => ⟨S3x640x8x1, .f32⟩
  | 88 => ⟨S3x640x8, .f32⟩
  | 89 => ⟨S3x640x8x64, .bf16⟩
  | 90 => ⟨S3x640x8x64, .f32⟩
  | 91 => ⟨S3x640x8x64, .f32⟩
  | 92 => ⟨S_, .f32⟩
  | 93 => ⟨S3x8x64, .f32⟩
  | 94 => ⟨S3x1x8x64, .f32⟩
  | 95 => ⟨S_, .f32⟩
  | 96 => ⟨S3x1x8x64, .f32⟩
  | 97 => ⟨S3x1x8x64, .f32⟩
  | 98 => ⟨S3x1x8x64, .f32⟩
  | 99 => ⟨S_, .f32⟩
  | 100 => ⟨S_, .f32⟩
  | 101 => ⟨S3x1x8x64, .f32⟩
  | 102 => ⟨S3x1x8x64, .f32⟩
  | 103 => ⟨S3x1x8x64, .f32⟩
  | 104 => ⟨S_, .f32⟩
  | 105 => ⟨S3x1x8x64, .f32⟩
  | 106 => ⟨S3x1x8x64, .f32⟩
  | 107 => ⟨S_, .f32⟩
  | 108 => ⟨S3x1x8x64, .f32⟩
  | 109 => ⟨S3x1x8x64, .i1⟩
  | 110 => ⟨S_, .f32⟩
  | 111 => ⟨S3x1x8x64, .f32⟩
  | 112 => ⟨S_, .f32⟩
  | 113 => ⟨S3x1x8x64, .f32⟩
  | 114 => ⟨S3x1x8x64, .f32⟩
  | 115 => ⟨S3x1x8x64, .f32⟩
  | 116 => ⟨S3x1x8x64, .f32⟩
  | 117 => ⟨S_, .f32⟩
  | 118 => ⟨S3x1x8x64, .f32⟩
  | 119 => ⟨S3x1x8x64, .f32⟩
  | 120 => ⟨S3x640x8x64, .f32⟩
  | 121 => ⟨S3x640x8x64, .f32⟩
  | 122 => ⟨S_, .f32⟩
  | 123 => ⟨S3x640x8x64, .f32⟩
  | 124 => ⟨S3x640x8x64, .f32⟩
  | 125 => ⟨S_, .f32⟩
  | 126 => ⟨S3x640x8x64, .f32⟩
  | 127 => ⟨S3x640x8x64, .f32⟩
  | _ => ⟨S3x640x2560, .bf16⟩

abbrev hbmTy0_1 (i : Nat) : BufTy := match i % 128 with
  | 0 => ⟨S_, .f32⟩
  | 1 => ⟨S3x1x8x64, .f32⟩
  | 2 => ⟨S3x1x8x64, .f32⟩
  | 3 => ⟨S3x8x64, .f32⟩
  | 4 => ⟨S3x640x8x5x64, .f32⟩
  | 5 => ⟨S3x8x5x640x64, .f32⟩
  | 6 => ⟨S3x640x8x5, .f32⟩
  | 7 => ⟨S3x8x5x640, .f32⟩
  | 8 => ⟨S3x8x640x64, .f32⟩
  | 9 => ⟨S3x8x640x64, .f32⟩
  | 10 => ⟨S3x8x640, .f32⟩
  | 11 => ⟨S3x8x1x1x640, .f32⟩
  | 12 => ⟨S_, .f32⟩
  | 13 => ⟨S3x8x1x1x640, .f32⟩
  | 14 => ⟨S3x8x1x1x640, .f32⟩
  | 15 => ⟨S3x8x1x1x64, .f32⟩
  | 16 => ⟨S3x8x5x640x640, .f32⟩
  | 17 => ⟨S3x8x5x640x1, .f32⟩
  | 18 => ⟨S3x8x5x640x640, .f32⟩
  | 19 => ⟨S3x8x5x640x640, .f32⟩
  | 20 => ⟨S3x8x5x640x640, .f32⟩
  | 21 => ⟨S3x8x5x640x640, .f32⟩
  | 22 => ⟨S_, .f32⟩
  | 23 => ⟨S3x8x5x640, .f32⟩
  | 24 => ⟨S3x8x5x640x1, .f32⟩
  | 25 => ⟨S3x8x5x640x640, .f32⟩
  | 26 => ⟨S3x8x5x640x640, .f32⟩
  | 27 => ⟨S3x8x5x640x640, .f32⟩
  | 28 => ⟨S_, .f32⟩
  | 29 => ⟨S3x8x5x640, .f32⟩
  | 30 => ⟨S_, .f32⟩
  | 31 => ⟨S3x8x5x640x640, .f32⟩
  | 32 => ⟨S3x8x5x640x640, .f32⟩
  | 33 => ⟨S_, .f32⟩
  | 34 => ⟨S3x8x5x640x640, .f32⟩
  | 35 => ⟨S3x8x5x640x640, .f32⟩
  | 36 => ⟨S_, .f32⟩
  | 37 => ⟨S3x8x5x640x640, .f32⟩
  | 38 => ⟨S3x8x5x640x640, .f32⟩
  | 39 => ⟨S3x8x5x640x64, .f32⟩
  | 40 => ⟨S_, .f32⟩
  | 41 => ⟨S3x8x1x1x64, .f32⟩
  | 42 => ⟨S3x8x1x1x64, .f32⟩
  | 43 => ⟨S3x8x5x640x64, .f32⟩
  | 44 => ⟨S3x8x5x640x64, .f32⟩
  | 45 => ⟨S3x8x5x640x1, .f32⟩
  | 46 => ⟨S3x8x5x640x64, .f32⟩
  | 47 => ⟨S3x8x5x640x64, .f32⟩
  | 48 => ⟨S3x640x8x5x64, .f32⟩
  | 49 => ⟨S3x640x2560, .f32⟩
  | 50 => ⟨S3x640x2560, .f32⟩
  | 51 => ⟨S_, .f32⟩
  | 52 => ⟨S3x640, .f32⟩
  | 53 => ⟨S3x640x1, .f32⟩
  | 54 => ⟨S_, .f32⟩
  | 55 => ⟨S3x640x1, .f32⟩
  | 56 => ⟨S3x640x1, .f32⟩
  | 57 => ⟨S3x640x1, .f32⟩
  | 58 => ⟨S_, .f32⟩
  | 59 => ⟨S_, .f32⟩
  | 60 => ⟨S3x640x1, .f32⟩
  | 61 => ⟨S3x640x1, .f32⟩
  | 62 => ⟨S3x640x1, .f32⟩
  | 63 => ⟨S_, .f32⟩
  | 64 => ⟨S3x640x1, .f32⟩
  | 65 => ⟨S3x640x1, .f32⟩
  | 66 => ⟨S_, .f32⟩
  | 67 => ⟨S3x640x1, .f32⟩
  | 68 => ⟨S3x640x1, .i1⟩
  | 69 => ⟨S_, .f32⟩
  | 70 => ⟨S3x640x1, .f32⟩
  | 71 => ⟨S_, .f32⟩
  | 72 => ⟨S3x640x1, .f32⟩
  | 73 => ⟨S3x640x1, .f32⟩
  | 74 => ⟨S3x640x1, .f32⟩
  | 75 => ⟨S3x640x1, .f32⟩
  | 76 => ⟨S_, .f32⟩
  | 77 => ⟨S3x640x1, .f32⟩
  | 78 => ⟨S3x640x1, .f32⟩
  | 79 => ⟨S3x640x2560, .f32⟩
  | 80 => ⟨S3x640x2560, .f32⟩
  | 81 => ⟨S_, .f32⟩
  | 82 => ⟨S3x640x2560, .f32⟩
  | 83 => ⟨S3x640x2560, .f32⟩
  | 84 => ⟨S_, .f32⟩
  | 85 => ⟨S3x640x2560, .f32⟩
  | 86 => ⟨S3x640x2560, .f32⟩
  | 87 => ⟨S_, .f32⟩
  | 88 => ⟨S3x640x1, .f32⟩
  | 89 => ⟨S3x640x1, .f32⟩
  | 90 => ⟨S3x640, .f32⟩
  | 91 => ⟨S3x640x2560, .fp8e4m3⟩
  | 92 => ⟨S3x640x2560, .f32⟩
  | 93 => ⟨S3x2560x640, .f32⟩
  | 94 => ⟨S3x2560x640, .fp8e4m3⟩
  | 95 => ⟨S3x40x640, .f32⟩
  | 96 => ⟨S3x640x512, .f32⟩
  | 97 => ⟨S3x512x640, .f32⟩
  | 98 => ⟨S3x512x640, .fp8e4m3⟩
  | 99 => ⟨S3x8x640, .f32⟩
  | 100 => ⟨S3x640x512, .f32⟩
  | 101 => ⟨S3x512x640, .f32⟩
  | 102 => ⟨S3x512x640, .fp8e4m3⟩
  | _ => ⟨S3x640x2560, .bf16⟩

abbrev hbmTy (i : Nat) : BufTy := match i / 128 with
  | 0 => hbmTy0_0 i
  | 1 => hbmTy0_1 i
  | _ => ⟨S3x640x2560, .bf16⟩

abbrev bufTy : (tb : Table) → Fin (tcTables nBuf tb) → BufTy
  | .hbm, ⟨i, _⟩ => hbmTy i
  | _, _ => ⟨S3x640x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_cst_16 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_cst_19 : Ref sig .tc := ⟨.hbm, 82, rfl⟩
abbrev main_v59 : Ref sig .tc := ⟨.hbm, 83, rfl⟩
abbrev main_v60 : Ref sig .tc := ⟨.hbm, 84, rfl⟩
abbrev main_cst_20 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_21 : Ref sig .tc := ⟨.hbm, 92, rfl⟩
abbrev main_v67 : Ref sig .tc := ⟨.hbm, 93, rfl⟩
abbrev main_v68 : Ref sig .tc := ⟨.hbm, 94, rfl⟩
abbrev main_cst_22 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_24 : Ref sig .tc := ⟨.hbm, 104, rfl⟩
abbrev main_v76 : Ref sig .tc := ⟨.hbm, 105, rfl⟩
abbrev main_v77 : Ref sig .tc := ⟨.hbm, 106, rfl⟩
abbrev main_cst_25 : Ref sig .tc := ⟨.hbm, 107, rfl⟩
abbrev main_v78 : Ref sig .tc := ⟨.hbm, 108, rfl⟩
abbrev main_v79 : Ref sig .tc := ⟨.hbm, 109, rfl⟩
abbrev main_cst_26 : Ref sig .tc := ⟨.hbm, 110, rfl⟩
abbrev main_v80 : Ref sig .tc := ⟨.hbm, 111, rfl⟩
abbrev main_cst_27 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_28 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_29 : Ref sig .tc := ⟨.hbm, 122, rfl⟩
abbrev main_v89 : Ref sig .tc := ⟨.hbm, 123, rfl⟩
abbrev main_v90 : Ref sig .tc := ⟨.hbm, 124, rfl⟩
abbrev main_cst_30 : Ref sig .tc := ⟨.hbm, 125, rfl⟩
abbrev main_v91 : Ref sig .tc := ⟨.hbm, 126, rfl⟩
abbrev main_v92 : Ref sig .tc := ⟨.hbm, 127, rfl⟩
abbrev main_cst_31 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_32 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_33 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_34 : Ref sig .tc := ⟨.hbm, 156, rfl⟩
abbrev main_v118 : Ref sig .tc := ⟨.hbm, 157, rfl⟩
abbrev main_cst_35 : Ref sig .tc := ⟨.hbm, 158, rfl⟩
abbrev main_v119 : Ref sig .tc := ⟨.hbm, 159, rfl⟩
abbrev main_v120 : Ref sig .tc := ⟨.hbm, 160, rfl⟩
abbrev main_cst_36 : Ref sig .tc := ⟨.hbm, 161, rfl⟩
abbrev main_v121 : Ref sig .tc := ⟨.hbm, 162, rfl⟩
abbrev main_v122 : Ref sig .tc := ⟨.hbm, 163, rfl⟩
abbrev main_cst_37 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_38 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_39 : Ref sig .tc := ⟨.hbm, 179, rfl⟩
abbrev main_v136 : Ref sig .tc := ⟨.hbm, 180, rfl⟩
abbrev main_v137 : Ref sig .tc := ⟨.hbm, 181, rfl⟩
abbrev main_cst_40 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_41 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_42 : Ref sig .tc := ⟨.hbm, 191, rfl⟩
abbrev main_v145 : Ref sig .tc := ⟨.hbm, 192, rfl⟩
abbrev main_v146 : Ref sig .tc := ⟨.hbm, 193, rfl⟩
abbrev main_cst_43 : Ref sig .tc := ⟨.hbm, 194, rfl⟩
abbrev main_v147 : Ref sig .tc := ⟨.hbm, 195, rfl⟩
abbrev main_v148 : Ref sig .tc := ⟨.hbm, 196, rfl⟩
abbrev main_cst_44 : Ref sig .tc := ⟨.hbm, 197, rfl⟩
abbrev main_v149 : Ref sig .tc := ⟨.hbm, 198, rfl⟩
abbrev main_cst_45 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_46 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_47 : Ref sig .tc := ⟨.hbm, 209, rfl⟩
abbrev main_v158 : Ref sig .tc := ⟨.hbm, 210, rfl⟩
abbrev main_v159 : Ref sig .tc := ⟨.hbm, 211, rfl⟩
abbrev main_cst_48 : Ref sig .tc := ⟨.hbm, 212, rfl⟩
abbrev main_v160 : Ref sig .tc := ⟨.hbm, 213, rfl⟩
abbrev main_v161 : Ref sig .tc := ⟨.hbm, 214, rfl⟩
abbrev main_cst_49 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩

abbrev nD : Nat := 1
abbrev τ : Topo := Topo.v7x

variable {F : FTy → Type} [FloatOps F]
-- ==== Proof.KPoints.lean ====
/- The body's branch conditions at each grid point, and the staging buffers that the body is handed. -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branch conditions -/

/-- The condition of the body's `scf.if` 0, from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points before point 5 — by arithmetic of the point. -/
theorem hcond0_1 : ∀ t : Fin cfg0.N, cond0_1 (grid0.coords t) ↔ t.val < 5 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val < 5)

/-- The condition of the body's `scf.if` 2 (`k0_h3`), from the grid coordinates (the skeleton's scalar
    chain substituted). -/
abbrev cond0_2 (i : grid0.Coords) : Prop := k0_cond3 i = 1#1
/-- It holds at the points whose coordinates have i0 = 1 — by arithmetic of the point. -/
theorem hcond0_2 : ∀ t : Fin cfg0.N, cond0_2 (grid0.coords t) ↔ t.val / 5 % 3 = 1 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val / 5 % 3 = 1)

/-- The condition of the body's `scf.if` 3 (`k0_h4`), from the grid coordinates (the skeleton's scalar
    chain substituted). -/
abbrev cond0_3 (i : grid0.Coords) : Prop := k0_cond4 i = 1#1
/-- It holds at the points from point 10 on — by arithmetic of the point. -/
theorem hcond0_3 : ∀ t : Fin cfg0.N, cond0_3 (grid0.coords t) ↔ 10 ≤ t.val :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ 10 ≤ t.val)

/-! ## The kernel body on any staging memrefs: a subtype the run finds -/

/-- Each window's current staging memref at point `t`, spelled as the pipeline passes it , and its wholeness. -/
abbrev ms0_0 (t : Fin cfg0.N) : Memref sig .tc .vmem S1x128x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x640 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x64 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x640x64 .fp8e4m3 := Memref.whole cc0_scratch0
abbrev scM0_1 : Memref sig .tc .vmem S8x640x128 .f32 := Memref.whole cc0_scratch1
abbrev scM0_2 : Memref sig .tc .vmem S512x128 .f32 := Memref.whole cc0_scratch2
abbrev scM0_3 : Memref sig .tc .vmem S2560x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end

end
-- ==== Proof.KRunA.lean ====
/- The run of the kernel's body at point 0 (the first block of batch 0). -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at point 0 (the first block of batch 0) runs on whole staging buffers, its inputs at the given blocks and everything else at anything; the inputs end as they were. -/
theorem runA (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : cond0_1 i) (hc2 : ¬cond0_2 i) (hc3 : ¬cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KRunB.lean ====
/- The run of the kernel's body at points 1 to 4. -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at points 1 to 4 runs on whole staging buffers, its inputs at the given blocks and everything else at anything; the inputs end as they were. -/
theorem runB (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : cond0_1 i) (hc2 : ¬cond0_2 i) (hc3 : ¬cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KRunC.lean ====
/- The run of the kernel's body at point 5 (the first block of batch 1). -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at point 5 (the first block of batch 1) runs on whole staging buffers, its inputs at the given blocks and everything else at anything; the inputs end as they were. -/
theorem runC (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : ¬cond0_1 i) (hc2 : cond0_2 i) (hc3 : ¬cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KRunD.lean ====
/- The run of the kernel's body at points 6 to 9. -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at points 6 to 9 runs on whole staging buffers, its inputs at the given blocks and everything else at anything; the inputs end as they were. -/
theorem runD (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : ¬cond0_1 i) (hc2 : cond0_2 i) (hc3 : ¬cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KRunE.lean ====
/- The run of the kernel's body at point 10 (the first block of batch 2). -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at point 10 (the first block of batch 2) runs on whole staging buffers, its inputs at the given blocks and everything else at anything; the inputs end as they were. -/
theorem runE (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : ¬cond0_1 i) (hc2 : ¬cond0_2 i) (hc3 : cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KRunF.lean ====
/- The run of the kernel's body at points 11 to 14. -/
module

public import proofs.«01_k».proof.Proof.KPoints

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 3968000 in
/-- The body at points 11 to 14 runs on whole staging buffers, its inputs at the given blocks and everything else at anything; the inputs end as they were. -/
theorem runF (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : ¬cond0_1 i) (hc2 : ¬cond0_2 i) (hc3 : cond0_3 i)
    (x0 : Vec F S1x128x2560 .bf16) (x1 : Vec F S1x640x512 .bf16) (x2 : Vec F S1x640x512 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.Hand

end

end
-- ==== Proof.KFrame.lean ====
/- The frame of the kernel as it runs: it terminates, keeps its arguments and leaves no semaphore raised. -/
module

public import proofs.«01_k».proof.Proof.KRunA
public import proofs.«01_k».proof.Proof.KRunB
public import proofs.«01_k».proof.Proof.KRunC
public import proofs.«01_k».proof.Proof.KRunD
public import proofs.«01_k».proof.Proof.KRunE
public import proofs.«01_k».proof.Proof.KRunF

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the input and output arrays at entry, nothing said of what the body leaves in a staging buffer. -/
def rdat (c : Dev nD) : RDat τ (Elt F) Unit ℕ (UR sig nD τ) ℕ cfg0 c where
  A := fun w => V m c (Pipeline.arrRef spec0 w)
  after := fun _ _ _ _ => True
  Φ := fun _ => Pipeline.ΦA spec0 c
  q := fun _ => fullShare
  owed := fun _ => 0

theorem A_eq (c : Dev nD) (w : Fin cfg0.W) : (rdat m c).A w = V m c (Pipeline.arrRef spec0 w) := by
  dsimp only [rdat]

/-- What the body is handed at a point. -/
def bodyPre (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10))

/-- What it hands back. -/
def bodyPost (c : Dev nD) (t : Fin cfg0.N) (Y : (w : Fin cfg0.W) → (cfg0.win w).block.Idx → Elt F (cfg0.win w).elt) : sProp 𝕄 :=
  iprop(Pipeline.ΦA spec0 c ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X))

set_option maxHeartbeats 28800000 in
/-- The body's triple at a point, case by case. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  rw [PhiA0_eq]
  have hN : t.val < 15 := lt_of_lt_of_eq t.isLt (show cfg0.N = 15 from N_0)
  by_cases h0 : t.val % 5 = 0
  · skip
    by_cases h1 : t.val < 5
    · skip
      by_cases h2 : t.val / 5 % 3 = 1
      · skip
        exfalso; omega
      · skip
        by_cases h3 : 10 ≤ t.val
        · skip
          exfalso; omega
        · skip
          iintro ⟨⟨⟨HS0, HS1, HS2, HS3⟩, Hg⟩, Ho, H0, H1, H2, H3, H4, H5, H6, H7, H8, H9, H10⟩
          iapply (runA c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
    · skip
      by_cases h2 : t.val / 5 % 3 = 1
      · skip
        by_cases h3 : 10 ≤ t.val
        · skip
          exfalso; omega
        · skip
          iintro ⟨⟨⟨HS0, HS1, HS2, HS3⟩, Hg⟩, Ho, H0, H1, H2, H3, H4, H5, H6, H7, H8, H9, H10⟩
          iapply (runC c (grid0.coords t) _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
      · skip
        by_cases h3 : 10 ≤ t.val
        · skip
          iintro ⟨⟨⟨HS0, HS1, HS2, HS3⟩, Hg⟩, Ho, H0, H1, H2, H3, H4, H5, H6, H7, H8, H9, H10⟩
          iapply (runE c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
        · skip
          exfalso; omega
  · skip
    by_cases h1 : t.val < 5
    · skip
      by_cases h2 : t.val / 5 % 3 = 1
      · skip
        exfalso; omega
      · skip
        by_cases h3 : 10 ≤ t.val
        · skip
          exfalso; omega
        · skip
          iintro ⟨⟨⟨HS0, HS1, HS2, HS3⟩, Hg⟩, Ho, H0, H1, H2, H3, H4, H5, H6, H7, H8, H9, H10⟩
          iapply (runB c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
    · skip
      by_cases h2 : t.val / 5 % 3 = 1
      · skip
        by_cases h3 : 10 ≤ t.val
        · skip
          exfalso; omega
        · skip
          iintro ⟨⟨⟨HS0, HS1, HS2, HS3⟩, Hg⟩, Ho, H0, H1, H2, H3, H4, H5, H6, H7, H8, H9, H10⟩
          iapply (runD c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
      · skip
        by_cases h3 : 10 ≤ t.val
        · skip
          iintro ⟨⟨⟨HS0, HS1, HS2, HS3⟩, Hg⟩, Ho, H0, H1, H2, H3, H4, H5, H6, H7, H8, H9, H10⟩
          iapply (runF c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (Y 0) (Y 1) (Y 2) Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3⟩
          isplitl [HS0 HS1 HS2 HS3 Hg]
          · isplitl [HS0 HS1 HS2 HS3]
            · isplitl [HS0]; · iexact HS0
              isplitl [HS1]; · iexact HS1
              isplitl [HS2]; · iexact HS2
              iexact HS3
            iexact Hg
          isplitl [Ho]; · iexact Ho
          isplitl [H0]
          · iexists _; isplitr; swap; · iexact H0
            ipureintro; exact trivial
          isplitl [H1]
          · iexists _; isplitr; swap; · iexact H1
            ipureintro; exact trivial
          isplitl [H2]
          · iexists _; isplitr; swap; · iexact H2
            ipureintro; exact trivial
          isplitl [H3]
          · iexists _; isplitr; swap; · iexact H3
            ipureintro; exact trivial
          isplitl [H4]
          · iexists _; isplitr; swap; · iexact H4
            ipureintro; exact trivial
          isplitl [H5]
          · iexists _; isplitr; swap; · iexact H5
            ipureintro; exact trivial
          isplitl [H6]
          · iexists _; isplitr; swap; · iexact H6
            ipureintro; exact trivial
          isplitl [H7]
          · iexists _; isplitr; swap; · iexact H7
            ipureintro; exact trivial
          isplitl [H8]
          · iexists _; isplitr; swap; · iexact H8
            ipureintro; exact trivial
          isplitl [H9]
          · iexists _; isplitr; swap; · iexact H9
            ipureintro; exact trivial
          iexists _; isplitr; swap; · iexact H10
          ipureintro; exact trivial
        · skip
          exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The run: it terminates with every array as the proof data says and no semaphore raised. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c w => (rdat m c).share_full (fun _ => rfl) w)
    (howed := fun _ _ => rfl) (V := V m) (hmain := hmain m Variants.none) (hA := A_eq m)
    (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main_quiescent m ρ)

end Cert.Kernel.Hand

end

end
-- ==== Proof.KiSpec.lean ====
/- What the kernel's body computes from the slabs it loads, one definition for every head: the rows of a quantiser, one
   attention unit (one or two query heads of a group), the scale of the output and its codes. Stated over any numbers. -/
module

public import proofs.«01_k».proof.Proof.Gen.KernelIdeal.Frame
public import Idealize.ShloMosaic.Lib.MatmulPlain

@[expose] public section

noncomputable section

namespace Cert.KernelIdeal.Hand

open Cert.KernelIdeal Cert.KernelIdeal.Gen
open Idealize.ShloMosaic Idealize.ShloMosaic.TcCoe

variable {F : FTy → Type} [FloatOps F] [Named F]

/-- A matrix's shape. -/
abbrev Sh (r n : ℕ) : Shape := ⟨2, ![r, n]⟩
/-- A vector's shape. -/
abbrev Sv (n : ℕ) : Shape := ⟨1, ![n]⟩
/-- The shape of one slab of a batch. -/
abbrev Sb (r n : ℕ) : Shape := ⟨3, ![1, r, n]⟩

/-- The shape facts that a quantiser over `r` rows and `n` columns uses. -/
structure QF (r n : ℕ) : Prop where
  red : (Sh r n).Reduces [0] (Sv n)
  cast : (Sv n).ShapeCasts (Sh 1 n)
  b255 : (Sh 1 n).Broadcasts (Sh 255 n)
  f255 : (Sh 255 1).Broadcasts (Sh 255 n)
  red255 : (Sh 255 n).Reduces [0] (Sv n)
  bc : (Sh 1 n).Broadcasts (Sh r n)
  up : (Sh 1 n).ShapeCasts (Sb 1 n)
  upr : (Sh r n).ShapeCasts (Sb r n)
  dn : (Sb r n).ShapeCasts (Sh r n)
  upT : (Sh n r).ShapeCasts (Sb n r)
  dnT : (Sb n r).ShapeCasts (Sh n r)
  tr : (Sh r n).Transposes [1, 0] (Sh n r)
  trT : (Sh n r).Transposes [1, 0] (Sh r n)
  self : (Sh 1 n).ShapeCasts (Sh 1 n)
  bcL : (Sh 1 n).Broadcasts (Sh 128 n)
  trL : (Sh 128 n).Transposes [1, 0] (Sh n 128)
  upL : (Sh n 128).ShapeCasts (Sb n 128)
  selfL : (Sh n 128).ShapeCasts (Sh n 128)

theorem qf_64_128 : QF 64 128 := by constructor <;> decide
theorem qf_64_640 : QF 64 640 := by constructor <;> decide
theorem qf_640_64 : QF 640 64 := by constructor <;> decide

section Quantiser

variable {r n : ℕ} (h : QF r n)

/-- Each column's largest magnitude, times the reciprocal of 448 rounded to binary32. -/
def aqOf (x : FVec F (Sh r n) .bf16) : FVec F (Sh 1 n) .f32 :=
  mulf (extf .f32 (shapeCast (Sh 1 n) (multiReduction .maximumf [0] (Sv n) (absf x) 0xFF80#16 h.red (.inr rfl) rfl) h.cast) bitsLt_bf16_f32)
    (broadcast (Sh 1 n) (Scalar.ofBits .f32 0x3B124925#32))

/-- The 255 least binary32 numbers of the exponent fields 1 to 255. -/
def leasts : FVec F (Sh 255 1) .f32 :=
  bitcastToFloat .f32 (shli (addi (iota .tc (Sh 255 1) 32 [0] iota_S255x1_d0_w32) (broadcast (Sh 255 1) 1#32)) (broadcast (Sh 255 1) 23#32))

/-- The exponent, from the count of thresholds at or below each entry; 0 where the entry is 0. -/
def expOf (aq : FVec F (Sh 1 n) .f32) : IVec (Sh 1 n) 32 :=
  select (cmpf .oeq aq (broadcast (Sh 1 n) (Scalar.ofBits .f32 0x00000000#32))) (broadcast (Sh 1 n) 0#32)
    (subi (shapeCast (Sh 1 n) (multiReductionI .add [0] (Sv n)
        (extui 32 (cmpf .oge (broadcastTo (Sh 255 n) aq h.b255) (broadcastTo (Sh 255 n) (leasts (F := F)) h.f255)) natLt_1_32) 0#32 h.red255 rfl) h.cast)
      (broadcast (Sh 1 n) 126#32))

/-- The scale, two to the exponent, by its bits. -/
def scaleOf (e : IVec (Sh 1 n) 32) : FVec F (Sh 1 n) .f32 :=
  bitcastToFloat .f32 (shli (addi (broadcast (Sh 1 n) 127#32) e) (broadcast (Sh 1 n) 23#32))

/-- The inverse scale, by its bits. -/
def invOf (e : IVec (Sh 1 n) 32) : FVec F (Sh 1 n) .f32 :=
  bitcastToFloat .f32 (shli (subi (broadcast (Sh 1 n) 127#32) e) (broadcast (Sh 1 n) 23#32))

/-- The codes before their rounding to eight bits. -/
def codesOf (x : FVec F (Sh r n) .bf16) (e : IVec (Sh 1 n) 32) : FVec F (Sh r n) .bf16 :=
  minimumf (broadcast (Sh r n) (Scalar.truncf .bf16 bitsLt_bf16_f32 (Scalar.ofBits .f32 0x43E00000#32)))
    (maximumf (broadcast (Sh r n) (Scalar.truncf .bf16 bitsLt_bf16_f32 (Scalar.ofBits .f32 0xC3E00000#32)))
      (mulf x (broadcastTo (Sh r n) (truncf .bf16 (invOf (F := F) e) bitsLt_bf16_f32) h.bc)))

/-- The scale of a matrix's columns, -/
def qScale (x : FVec F (Sh r n) .bf16) : FVec F (Sh 1 n) .f32 := scaleOf (expOf h (aqOf h x))
/-- and its codes. -/
def qCodes (x : FVec F (Sh r n) .bf16) : FVec F (Sh r n) .bf16 := codesOf h x (expOf h (aqOf h x))

end Quantiser

/-! ## The query heads -/

theorem slices_q (h : ℕ) : (Sh 128 128).Slices ![64 * (h % 2), 0] (Sh 64 128) := by
  rcases Nat.mod_two_eq_zero_or_one h with e | e <;> rw [e] <;> decide

/-- Query head `h`'s slab, transposed: rows are the head's 64 entries, columns the 128 positions. -/
def qx (xs : (i : ℕ) → i < 20 → FVec F (Sb 128 128) .bf16) (h : ℕ) (hh : h < 40) : FVec F (Sh 64 128) .bf16 :=
  extractStridedSlice (Sh 64 128) ![64 * (h % 2), 0]
    (transpose (Sh 128 128) [1, 0] (shapeCast (Sh 128 128) (xs (h / 2) (by omega)) shapeCasts_S1x128x128_S128x128) transposes_S128x128_p1_0_S128x128)
    (slices_q h)

/-- Query head `h`'s codes, -/
def qc (xs : (i : ℕ) → i < 20 → FVec F (Sb 128 128) .bf16) (h : ℕ) (hh : h < 40) : FVec F (Sh 64 128) .fp8e4m3 :=
  truncf .fp8e4m3 (qCodes qf_64_128 (qx xs h hh)) bitsLt_fp8e4m3_bf16
/-- and its scales. -/
def qs (xs : (i : ℕ) → i < 20 → FVec F (Sb 128 128) .bf16) (h : ℕ) (hh : h < 40) : FVec F (Sh 1 128) .f32 :=
  qScale qf_64_128 (qx xs h hh)

/-- What the body stores of them. -/
def qtPay (xs : (i : ℕ) → i < 20 → FVec F (Sb 128 128) .bf16) (h : ℕ) (hh : h < 40) : FVec F (Sb 64 128) .fp8e4m3 :=
  shapeCast (Sb 64 128) (qc xs h hh) qf_64_128.upr
def qscPay (xs : (i : ℕ) → i < 20 → FVec F (Sb 128 128) .bf16) (h : ℕ) (hh : h < 40) : FVec F (Sb 1 128) .f32 :=
  shapeCast (Sb 1 128) (qs xs h hh) qf_64_128.up

/-! ## The keys and the values -/

/-- A key head's slab, transposed. -/
def kx (k : FVec F (Sb 640 64) .bf16) : FVec F (Sh 64 640) .bf16 :=
  transpose (Sh 64 640) [1, 0] (shapeCast (Sh 640 64) k qf_64_640.dnT) qf_64_640.trT

/-- What the body stores of a key head: the codes by columns, -/
def ktPay (k : FVec F (Sb 640 64) .bf16) : FVec F (Sb 64 640) .fp8e4m3 :=
  shapeCast (Sb 64 640) (truncf .fp8e4m3 (qCodes qf_64_640 (kx k)) bitsLt_fp8e4m3_bf16) qf_64_640.upr
/-- the scales, -/
def kscPay (k : FVec F (Sb 640 64) .bf16) : FVec F (Sb 1 640) .f32 := shapeCast (Sb 1 640) (qScale qf_64_640 (kx k)) qf_64_640.up
/-- the codes by rows, -/
def knPay (k : FVec F (Sb 640 64) .bf16) : FVec F (Sb 640 64) .fp8e4m3 :=
  shapeCast (Sb 640 64) (truncf .fp8e4m3 (transpose (Sh 640 64) [1, 0] (qCodes qf_64_640 (kx k)) qf_64_640.tr) bitsLt_fp8e4m3_bf16) qf_64_640.upT
/-- and the scales along 128 lanes. -/
def kcolPay (k : FVec F (Sb 640 64) .bf16) : FVec F (Sb 640 128) .f32 :=
  shapeCast (Sb 640 128) (transpose (Sh 640 128) [1, 0]
    (broadcastTo (Sh 128 640) (shapeCast (Sh 1 640) (qScale qf_64_640 (kx k)) qf_64_640.self) qf_64_640.bcL) qf_64_640.trL) qf_64_640.upL

/-- A value head's slab. -/
def vx (v : FVec F (Sb 640 64) .bf16) : FVec F (Sh 640 64) .bf16 := shapeCast (Sh 640 64) v qf_640_64.dn

/-- What the body stores of a value head: the codes by columns, -/
def vtPay (v : FVec F (Sb 640 64) .bf16) : FVec F (Sb 64 640) .fp8e4m3 :=
  shapeCast (Sb 64 640) (truncf .fp8e4m3 (transpose (Sh 64 640) [1, 0] (qCodes qf_640_64 (vx v)) qf_640_64.tr) bitsLt_fp8e4m3_bf16) qf_640_64.upT
/-- the scales, -/
def vscPay (v : FVec F (Sb 640 64) .bf16) : FVec F (Sb 1 64) .f32 := shapeCast (Sb 1 64) (qScale qf_640_64 (vx v)) qf_640_64.up
/-- and the scales along 128 lanes. -/
def vcolPay (v : FVec F (Sb 640 64) .bf16) : FVec F (Sh 64 128) .f32 :=
  shapeCast (Sh 64 128) (transpose (Sh 64 128) [1, 0]
    (broadcastTo (Sh 128 64) (shapeCast (Sh 1 64) (qScale qf_640_64 (vx v)) qf_640_64.self) qf_640_64.bcL) qf_640_64.trL) qf_640_64.selfL

/-! ## Attention -/

/-- The shape facts of an attention unit of `w` columns (query positions of one or two heads). -/
structure AF (w : ℕ) : Prop where
  red : (Sh 640 w).Reduces [0] (Sv w)
  cast : (Sv w).ShapeCasts (Sh 1 w)
  bc : (Sh 1 w).Broadcasts (Sh 640 w)

theorem af_128 : AF 128 := by constructor <;> decide
theorem af_256 : AF 256 := by constructor <;> decide

section Unit

variable {w : ℕ} (h : AF w)

/-- The scores in the scale of the keys. -/
def sOf (kn : FVec F (Sh 640 64) .fp8e4m3) (q : FVec F (Sh 64 w) .fp8e4m3) (kcol : FVec F (Sh 640 w) .f32) : FVec F (Sh 640 w) .f32 :=
  mulf (matmul (DotDims.plain 640 64 w) none kn q (constant (Sh 640 w) .f32 0x00000000#32)) kcol

/-- The exponentials, 256 at each column's largest score. -/
def pOf (s : FVec F (Sh 640 w) .f32) (q : FVec F (Sh 1 w) .f32) : FVec F (Sh 640 w) .f32 :=
  exp2 (mulf
    (subf s (broadcastTo (Sh 640 w)
      (subf (shapeCast (Sh 1 w) (multiReduction .maximumf [0] (Sv w) s 0xFF800000#32 h.red (.inl rfl) rfl) h.cast)
        (divf (broadcast (Sh 1 w) (Named.named κ "p_shift" 0x42317218#32)) q)) h.bc))
    (broadcastTo (Sh 640 w) (mulf q (broadcast (Sh 1 w) (Named.named κ "score_base2" 0x3E38AA3B#32))) h.bc))

/-- The reciprocals of their sums. -/
def rlOf (p : FVec F (Sh 640 w) .f32) : FVec F (Sh 1 w) .f32 :=
  divf (broadcast (Sh 1 w) (Scalar.ofBits .f32 0x3F800000#32))
    (shapeCast (Sh 1 w) (multiReduction .add [0] (Sv w) p 0x00000000#32 h.red (.inl rfl) rfl) h.cast)

/-- The product with the values' codes. -/
def oOf (vt : FVec F (Sh 64 640) .fp8e4m3) (p : FVec F (Sh 640 w) .f32) : FVec F (Sh 64 w) .f32 :=
  matmul (DotDims.plain 64 640 w) none vt
    (truncf .fp8e4m3 (minimumf (broadcast (Sh 640 w) (Scalar.ofBits .f32 0x43E00000#32)) (maximumf (broadcast (Sh 640 w) (Scalar.ofBits .f32 0x00000000#32)) p))
      bitsLt_fp8e4m3_f32)
    (constant (Sh 64 w) .f32 0x00000000#32)

end Unit

/-- The prepared keys and values of one batch, as the body loads them. -/
structure Prep (F : FTy → Type) where
  kn : (g : ℕ) → g < 8 → FVec F (Sb 640 64) .fp8e4m3
  kcol : (g : ℕ) → g < 8 → FVec F (Sb 640 128) .f32
  vcol : (g : ℕ) → g < 8 → FVec F (Sh 64 128) .f32
  vt : (g : ℕ) → g < 8 → FVec F (Sb 64 640) .fp8e4m3

section Body

variable (xs : (i : ℕ) → i < 20 → FVec F (Sb 128 128) .bf16) (P : Prep F)

/-- The exponentials of the last head of group `g`, -/
def p1 (g : ℕ) (hg : g < 8) : FVec F (Sh 640 128) .f32 :=
  pOf af_128 (sOf (shapeCast (Sh 640 64) (P.kn g hg) shapeCasts_S1x640x64_S640x64) (qc xs (5 * g + 4) (by omega))
      (shapeCast (Sh 640 128) (P.kcol g hg) shapeCasts_S1x640x128_S640x128))
    (qs xs (5 * g + 4) (by omega))

/-- and of its heads `2a` and `2a + 1`, side by side. -/
def p2 (g a : ℕ) (hg : g < 8) (ha : a < 2) : FVec F (Sh 640 256) .f32 :=
  pOf af_256 (sOf (shapeCast (Sh 640 64) (P.kn g hg) shapeCasts_S1x640x64_S640x64)
      (concatenate (Sh 64 256) 1 [⟨Sh 64 128, qc xs (5 * g + 2 * a) (by omega)⟩, ⟨Sh 64 128, qc xs (5 * g + 2 * a + 1) (by omega)⟩] concatenates_S64x128_S64x128_S64x256_d1)
      (concatenate (Sh 640 256) 1 [⟨Sh 640 128, shapeCast (Sh 640 128) (P.kcol g hg) shapeCasts_S1x640x128_S640x128⟩,
        ⟨Sh 640 128, shapeCast (Sh 640 128) (P.kcol g hg) shapeCasts_S1x640x128_S640x128⟩] concatenates_S640x128_S640x128_S640x256_d1))
    (concatenate (Sh 1 256) 1 [⟨Sh 1 128, qs xs (5 * g + 2 * a) (by omega)⟩, ⟨Sh 1 128, qs xs (5 * g + 2 * a + 1) (by omega)⟩] concatenates_S1x128_S1x128_S1x256_d1)

theorem slices_o (c : ℕ) : (Sh 64 256).Slices ![0, 128 * (c % 2)] (Sh 64 128) := by
  rcases Nat.mod_two_eq_zero_or_one c with e | e <;> rw [e] <;> decide
theorem slices_rl (c : ℕ) : (Sh 1 256).Slices ![0, 128 * (c % 2)] (Sh 1 128) := by
  rcases Nat.mod_two_eq_zero_or_one c with e | e <;> rw [e] <;> decide

/-- Head `h`'s weighted sum of values, not yet divided by the sum of its weights. -/
def uOf (h : ℕ) (hh : h < 40) : FVec F (Sh 64 128) .f32 :=
  mulf
    (if h % 5 = 4 then oOf (shapeCast (Sh 64 640) (P.vt (h / 5) (by omega)) shapeCasts_S1x64x640_S64x640) (p1 xs P (h / 5) (by omega))
     else extractStridedSlice (Sh 64 128) ![0, 128 * (h % 5 % 2)]
      (oOf (shapeCast (Sh 64 640) (P.vt (h / 5) (by omega)) shapeCasts_S1x64x640_S64x640) (p2 xs P (h / 5) (h % 5 / 2 % 2) (by omega) (by omega))) (slices_o (h % 5)))
    (P.vcol (h / 5) (by omega))

/-- What the body stores of them. -/
def uPay (h : ℕ) (hh : h < 40) : FVec F (Sh 64 128) .f32 := shapeCast (Sh 64 128) (uOf xs P h hh) (by decide)

/-- The reciprocal of the sum of head `h`'s weights. -/
def rlH (h : ℕ) (hh : h < 40) : FVec F (Sh 1 128) .f32 :=
  if h % 5 = 4 then rlOf af_128 (p1 xs P (h / 5) (by omega))
  else extractStridedSlice (Sh 1 128) ![0, 128 * (h % 5 % 2)] (rlOf af_256 (p2 xs P (h / 5) (h % 5 / 2 % 2) (by omega) (by omega))) (slices_rl (h % 5))

/-- Head `h`'s largest magnitude at each position. -/
def amaxH (h : ℕ) (hh : h < 40) : FVec F (Sh 1 128) .f32 :=
  mulf (shapeCast (Sh 1 128) (multiReduction .maximumf [0] (Sv 128) (absf (uOf xs P h hh)) 0xFF800000#32 qf_64_128.red (.inl rfl) rfl) qf_64_128.cast)
    (rlH xs P h hh)

/-- The largest over the heads up to `h`. -/
def amaxTo : (h : ℕ) → h < 40 → FVec F (Sh 1 128) .f32
  | 0, hh => amaxH xs P 0 hh
  | h + 1, hh => maximumf (amaxTo h (by omega)) (amaxH xs P (h + 1) hh)

/-- The exponent of the output's scale at each position. -/
def oExp : IVec (Sh 1 128) 32 :=
  expOf qf_64_128 (mulf (amaxTo xs P 39 (by omega)) (broadcast (Sh 1 128) (Scalar.ofBits .f32 0x3B124925#32)))

/-- Head `h`'s codes of the output, from its weighted sums `u` as they are loaded. -/
def yOf (u : FVec F (Sh 64 128) .f32) (h : ℕ) (hh : h < 40) : FVec F (Sh 64 128) .f32 :=
  minimumf (broadcast (Sh 64 128) (Scalar.ofBits .f32 0x43E00000#32))
    (maximumf (broadcast (Sh 64 128) (Scalar.ofBits .f32 0xC3E00000#32))
      (mulf u (broadcastTo (Sh 64 128) (mulf (rlH xs P h hh) (invOf (oExp xs P))) qf_64_128.bc)))

/-- The output's codes of heads `2i` and `2i + 1`, as they are stored. -/
def outPay (u : (h : ℕ) → h < 40 → FVec F (Sh 64 128) .f32) (i : ℕ) (hi : i < 20) : FVec F (Sb 128 128) .fp8e4m3 :=
  shapeCast (Sb 128 128) (truncf .fp8e4m3 (transpose (Sh 128 128) [1, 0]
    (concatenate (Sh 128 128) 0 [⟨Sh 64 128, yOf xs P (u (2 * i) (by omega)) (2 * i) (by omega)⟩, ⟨Sh 64 128, yOf xs P (u (2 * i + 1) (by omega)) (2 * i + 1) (by omega)⟩]
      concatenates_S64x128_S64x128_S128x128_d0) transposes_S128x128_p1_0_S128x128) bitsLt_fp8e4m3_f32) shapeCasts_S128x128_S1x128x128

end Body

/-! ## The body's loads and stores, as families -/

theorem inb_x (i : ℕ) (hi : i < 20) : ∀ a, (![0, 0, 128 * i] : Fin 3 → ℕ) a + S1x128x128.size a ≤ S1x128x2560.size a := by
  intro a; fin_cases a <;> simp <;> omega
theorem inb_k (i : ℕ) (hi : i < 8) : ∀ a, (![0, 0, 64 * i] : Fin 3 → ℕ) a + S1x640x64.size a ≤ S1x640x512.size a := by
  intro a; fin_cases a <;> simp <;> omega
theorem inb_kn (i : ℕ) (hi : i < 8) : ∀ a, (![i, 0, 0] : Fin 3 → ℕ) a + S1x640x64.size a ≤ S8x640x64.size a := by
  intro a; fin_cases a <;> simp <;> omega
theorem inb_kcol (i : ℕ) (hi : i < 8) : ∀ a, (![i, 0, 0] : Fin 3 → ℕ) a + S1x640x128.size a ≤ S8x640x128.size a := by
  intro a; fin_cases a <;> simp <;> omega
theorem inb_vcol (i : ℕ) (hi : i < 8) : ∀ a, (![64 * i, 0] : Fin 2 → ℕ) a + S64x128.size a ≤ S512x128.size a := by
  intro a; fin_cases a <;> simp <;> omega
theorem inb_vt (i : ℕ) (hi : i < 8) : ∀ a, (![0, 64 * i, 0] : Fin 3 → ℕ) a + S1x64x640.size a ≤ S1x512x640.size a := by
  intro a; fin_cases a <;> simp <;> omega
theorem inb_row (i : ℕ) (hi : i < 8) : ∀ a, (![0, i, 0] : Fin 3 → ℕ) a + S1x1x640.size a ≤ S1x8x640.size a := by
  intro a; fin_cases a <;> simp <;> omega
theorem inb_vsc (i : ℕ) (hi : i < 8) : ∀ a, (![0, i, 0] : Fin 3 → ℕ) a + S1x1x64.size a ≤ S1x8x64.size a := by
  intro a; fin_cases a <;> simp <;> omega
theorem inb_u (i : ℕ) (hi : i < 40) : ∀ a, (![64 * i, 0] : Fin 2 → ℕ) a + S64x128.size a ≤ S2560x128.size a := by
  intro a; fin_cases a <;> simp <;> omega
theorem inb_qt (i : ℕ) (hi : i < 40) : ∀ a, (![0, 64 * i, 0] : Fin 3 → ℕ) a + S1x64x128.size a ≤ S1x2560x128.size a := by
  intro a; fin_cases a <;> simp <;> omega
theorem inb_qsc (i : ℕ) (hi : i < 40) : ∀ a, (![0, i, 0] : Fin 3 → ℕ) a + S1x1x128.size a ≤ S1x40x128.size a := by
  intro a; fin_cases a <;> simp <;> omega

/-- Slab `i` of the query block, as the body loads it from a whole buffer that holds `x`, -/
abbrev ldX (arg2 : Memref sig .tc .vmem S1x128x2560 .bf16) (harg2 : arg2.IsWhole) (x : Vec F S1x128x2560 .bf16) (i : ℕ) (hi : i < 20) : FVec F (Sb 128 128) .bf16 :=
  View.readAt (Elt F) arg2.view (Rect.unit (s := S1x128x2560) ![0, 0, 128 * i] S1x128x128.size (inb_x i hi)).toLoadRect (harg2.unread x)
/-- and slab `i` of the keys or the values. -/
abbrev ldK (arg3 : Memref sig .tc .vmem S1x640x512 .bf16) (harg3 : arg3.IsWhole) (x : Vec F S1x640x512 .bf16) (i : ℕ) (hi : i < 8) : FVec F (Sb 640 64) .bf16 :=
  View.readAt (Elt F) arg3.view (Rect.unit (s := S1x640x512) ![0, 0, 64 * i] S1x640x64.size (inb_k i hi)).toLoadRect (harg3.unread x)

/-- The prepared keys and values, as the body loads them from whole buffers. -/
abbrev ldP (arg11 : Memref sig .tc .vmem S1x512x640 .fp8e4m3) (harg11 : arg11.IsWhole) (arg13 : Memref sig .tc .vmem S8x640x64 .fp8e4m3) (harg13 : arg13.IsWhole)
    (arg14 : Memref sig .tc .vmem S8x640x128 .f32) (harg14 : arg14.IsWhole) (arg15 : Memref sig .tc .vmem S512x128 .f32) (harg15 : arg15.IsWhole)
    (x9 : Vec F S1x512x640 .fp8e4m3) (x11 : Vec F S8x640x64 .fp8e4m3) (x12 : Vec F S8x640x128 .f32) (x13 : Vec F S512x128 .f32) : Prep F where
  kn g hg := View.readAt (Elt F) arg13.view (Rect.unit (s := S8x640x64) ![g, 0, 0] S1x640x64.size (inb_kn g hg)).toLoadRect (harg13.unread x11)
  kcol g hg := View.readAt (Elt F) arg14.view (Rect.unit (s := S8x640x128) ![g, 0, 0] S1x640x128.size (inb_kcol g hg)).toLoadRect (harg14.unread x12)
  vcol g hg := View.readAt (Elt F) arg15.view (Rect.unit (s := S512x128) ![64 * g, 0] S64x128.size (inb_vcol g hg)).toLoadRect (harg15.unread x13)
  vt g hg := View.readAt (Elt F) arg11.view (Rect.unit (s := S1x512x640) ![0, 64 * g, 0] S1x64x640.size (inb_vt g hg)).toLoadRect (harg11.unread x9)

section Lists

variable (xs : (i : ℕ) → i < 20 → FVec F (Sb 128 128) .bf16) (P : Prep F)
variable (ks vs : (i : ℕ) → i < 8 → FVec F (Sb 640 64) .bf16)

/-- The stores in the window of the query codes, -/
def listQt : List (View.Piece (Elt F) S1x2560x128 .fp8e4m3) :=
  List.ofFn fun k : Fin 40 => ⟨Rect.unit (s := S1x2560x128) ![0, 64 * (39 - k.val), 0] S1x64x128.size (inb_qt _ (by omega)), qtPay xs (39 - k.val) (by omega)⟩
/-- of the query scales, -/
def listQsc : List (View.Piece (Elt F) S1x40x128 .f32) :=
  List.ofFn fun k : Fin 40 => ⟨Rect.unit (s := S1x40x128) ![0, 39 - k.val, 0] S1x1x128.size (inb_qsc _ (by omega)), qscPay xs (39 - k.val) (by omega)⟩
/-- of the weighted sums, -/
def listU : List (View.Piece (Elt F) S2560x128 .f32) :=
  List.ofFn fun k : Fin 40 => ⟨Rect.unit (s := S2560x128) ![64 * (39 - k.val), 0] S64x128.size (inb_u _ (by omega)), uPay xs P (39 - k.val) (by omega)⟩
/-- and of the output's codes. -/
def listOut (u : (h : ℕ) → h < 40 → FVec F (Sh 64 128) .f32) : List (View.Piece (Elt F) S1x128x2560 .fp8e4m3) :=
  List.ofFn fun k : Fin 20 => ⟨Rect.unit (s := S1x128x2560) ![0, 0, 128 * (19 - k.val)] S1x128x128.size (inb_x _ (by omega)), outPay xs P u (19 - k.val) (by omega)⟩
/-- The weighted sums, as the body loads them back. -/
abbrev ldU (arg16 : Memref sig .tc .vmem S2560x128 .f32) (h : ℕ) (hh : h < 40) : FVec F (Sh 64 128) .f32 :=
  View.readCov arg16.view (listU xs P) (Rect.unit (s := S2560x128) ![64 * h, 0] S64x128.size (inb_u h hh)).toLoadRect

/-- The stores in the window of the key codes, -/
def listKt : List (View.Piece (Elt F) S1x512x640 .fp8e4m3) :=
  List.ofFn fun k : Fin 8 => ⟨Rect.unit (s := S1x512x640) ![0, 64 * (7 - k.val), 0] S1x64x640.size (inb_vt _ (by omega)), ktPay (ks (7 - k.val) (by omega))⟩
/-- the key scales, -/
def listKsc : List (View.Piece (Elt F) S1x8x640 .f32) :=
  List.ofFn fun k : Fin 8 => ⟨Rect.unit (s := S1x8x640) ![0, 7 - k.val, 0] S1x1x640.size (inb_row _ (by omega)), kscPay (ks (7 - k.val) (by omega))⟩
/-- the value codes -/
def listVt : List (View.Piece (Elt F) S1x512x640 .fp8e4m3) :=
  List.ofFn fun k : Fin 8 => ⟨Rect.unit (s := S1x512x640) ![0, 64 * (7 - k.val), 0] S1x64x640.size (inb_vt _ (by omega)), vtPay (vs (7 - k.val) (by omega))⟩
/-- and the value scales; -/
def listVsc : List (View.Piece (Elt F) S1x8x64 .f32) :=
  List.ofFn fun k : Fin 8 => ⟨Rect.unit (s := S1x8x64) ![0, 7 - k.val, 0] S1x1x64.size (inb_vsc _ (by omega)), vscPay (vs (7 - k.val) (by omega))⟩
/-- in the scratch of the key codes by rows, -/
def listKn : List (View.Piece (Elt F) S8x640x64 .fp8e4m3) :=
  List.ofFn fun k : Fin 8 => ⟨Rect.unit (s := S8x640x64) ![7 - k.val, 0, 0] S1x640x64.size (inb_kn _ (by omega)), knPay (ks (7 - k.val) (by omega))⟩
/-- the key scales along the lanes -/
def listKcol : List (View.Piece (Elt F) S8x640x128 .f32) :=
  List.ofFn fun k : Fin 8 => ⟨Rect.unit (s := S8x640x128) ![7 - k.val, 0, 0] S1x640x128.size (inb_kcol _ (by omega)), kcolPay (ks (7 - k.val) (by omega))⟩
/-- and the value scales along the lanes. -/
def listVcol : List (View.Piece (Elt F) S512x128 .f32) :=
  List.ofFn fun k : Fin 8 => ⟨Rect.unit (s := S512x128) ![64 * (7 - k.val), 0] S64x128.size (inb_vcol _ (by omega)), vcolPay (vs (7 - k.val) (by omega))⟩

/-- The prepared keys and values as the body loads them back at the point that prepares them. -/
abbrev covP (arg11 : Memref sig .tc .vmem S1x512x640 .fp8e4m3) (arg13 : Memref sig .tc .vmem S8x640x64 .fp8e4m3)
    (arg14 : Memref sig .tc .vmem S8x640x128 .f32) (arg15 : Memref sig .tc .vmem S512x128 .f32) : Prep F where
  kn g hg := View.readCov arg13.view (listKn ks) (Rect.unit (s := S8x640x64) ![g, 0, 0] S1x640x64.size (inb_kn g hg)).toLoadRect
  kcol g hg := View.readCov arg14.view (listKcol ks) (Rect.unit (s := S8x640x128) ![g, 0, 0] S1x640x128.size (inb_kcol g hg)).toLoadRect
  vcol g hg := View.readCov arg15.view (listVcol vs) (Rect.unit (s := S512x128) ![64 * g, 0] S64x128.size (inb_vcol g hg)).toLoadRect
  vt g hg := View.readCov arg11.view (listVt vs) (Rect.unit (s := S1x512x640) ![0, 64 * g, 0] S1x64x640.size (inb_vt g hg)).toLoadRect

end Lists

end Cert.KernelIdeal.Hand

end

end
-- ==== Proof.Model.lean ====
/- The numbers behind the certificate, over the reals: the exponent of a scale, the codes of a quantiser, and the
   few patterns of bits that spell them. -/
module

public import Idealize.ShloMosaic.PureOps.Ideal
public import Idealize.ShloMosaic.PureOps.Ideal.Laws
public import Idealize.ShloMosaic.Lib.Pointwise

@[expose] public section

set_option maxRecDepth 16384

noncomputable section

namespace Cert.Model

open Idealize.ShloMosaic

/-! ## Extended reals -/

theorem coe_max (a b : ℝ) : ((max a b : ℝ) : EReal) = max (a : EReal) b :=
  (Monotone.map_max (f := ((↑) : ℝ → EReal)) fun _ _ h => EReal.coe_le_coe_iff.2 h)
theorem coe_min (a b : ℝ) : ((min a b : ℝ) : EReal) = min (a : EReal) b :=
  (Monotone.map_min (f := ((↑) : ℝ → EReal)) fun _ _ h => EReal.coe_le_coe_iff.2 h)
theorem coe_abs (a : ℝ) : max (a : EReal) (-(a : EReal)) = ((|a| : ℝ) : EReal) := by
  rw [← EReal.coe_neg, ← coe_max]; rfl
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, -/
def top {n : ℕ} (f : Fin (n + 1) → ℝ) : ℝ := Finset.univ.sup' Finset.univ_nonempty f
theorem le_top {n : ℕ} (f : Fin (n + 1) → ℝ) (k : Fin (n + 1)) : f k ≤ top f := Finset.le_sup' f (Finset.mem_univ k)
theorem top_le {n : ℕ} {f : Fin (n + 1) → ℝ} {a : ℝ} (h : ∀ k, f k ≤ a) : top f ≤ a := Finset.sup'_le _ _ fun k _ => h k
theorem exists_top {n : ℕ} (f : Fin (n + 1) → ℝ) : ∃ k, top f = f k := by
  obtain ⟨k, -, h⟩ := Finset.exists_mem_eq_sup' Finset.univ_nonempty f
  exact ⟨k, h⟩

theorem top_eq {n : ℕ} {f : Fin (n + 1) → ℝ} {a : ℝ} (h : ∀ k, f k ≤ a) (h' : ∃ k, f k = a) : top f = a := by
  obtain ⟨k, hk⟩ := h'
  exact le_antisymm (top_le h) (hk ▸ le_top f k)

/-- as a fold of maxima from below. -/
theorem fold_top {n : ℕ} (f : Fin (n + 1) → ℝ) (g : Fin (n + 1) → EReal) (hg : ∀ k, g k = (f k : EReal)) :
    (Finset.univ : Finset (Fin (n + 1))).fold max (⊥ : EReal) g = ((top f : ℝ) : EReal) := by
  apply le_antisymm
  · rw [Finset.fold_max_le]
    exact ⟨bot_le, fun k _ => by rw [hg]; exact EReal.coe_le_coe_iff.2 (le_top f k)⟩
  · obtain ⟨k, hk⟩ := exists_top f
    rw [hk, ← hg k, Finset.le_fold_max]
    exact .inr ⟨k, Finset.mem_univ k, le_rfl⟩

/-! ## The exponent -/

/-- The exponent of the least power of two above `q`, at least -126; of nothing, 0. -/
def eQ (q : ℝ) : ℤ := if q = 0 then 0 else max (⌊Real.log q / Real.log 2⌋ + 1) (-126)

theorem zpow_le_iff {q : ℝ} (hq : 0 < q) (z : ℤ) : (2 : ℝ) ^ z ≤ q ↔ z ≤ ⌊Real.log q / Real.log 2⌋ := by
  rw [Int.le_floor, le_div_iff₀ (Real.log_pos one_lt_two), ← Real.log_zpow, Real.log_le_log_iff (by positivity) hq]

theorem floor_lt {q : ℝ} (hq : 0 < q) (h : q < 2 ^ 126) : ⌊Real.log q / Real.log 2⌋ < 126 := by
  by_contra hc
  have := (zpow_le_iff hq 126).2 (not_lt.1 hc)
  have h2 : (2 : ℝ) ^ (126 : ℤ) = 2 ^ 126 := by norm_cast
  rw [h2] at this
  exact absurd h (not_lt.2 this)

theorem eQ_ge (q : ℝ) : -126 ≤ eQ q := by
  unfold eQ; split
  · decide
  · exact le_max_right _ _

theorem eQ_le {q : ℝ} (h0 : 0 ≤ q) (h : q < 2 ^ 126) : eQ q ≤ 126 := by
  unfold eQ; split
  · decide
  · rename_i hq
    have := floor_lt (lt_of_le_of_ne h0 (Ne.symm hq)) h
    omega

/-- How many of the powers from -126 to 127 are at most `q`. -/
theorem count_le {q : ℝ} (hq : 0 < q) (h : q < 2 ^ 126) :
    ((Finset.univ.filter fun f : Fin 255 => f.val < 254 ∧ (2 : ℝ) ^ ((f.val : ℤ) - 126) ≤ q).card : ℤ)
      = max (⌊Real.log q / Real.log 2⌋ + 127) 0 := by
  have hL := floor_lt hq h
  generalize hLL : ⌊Real.log q / Real.log 2⌋ = L at hL ⊢
  have e : (Finset.univ.filter fun f : Fin 255 => f.val < 254 ∧ (2 : ℝ) ^ ((f.val : ℤ) - 126) ≤ q)
      = Finset.univ.filter fun f : Fin 255 => f.val < (L + 127).toNat := by
    ext f
    simp only [Finset.mem_filter, Finset.mem_univ, true_and, zpow_le_iff hq, hLL]
    omega
  rw [e, Fin.card_filter_val_lt]
  omega

/-! ## Patterns of bits -/

/-- The pattern of the exponent field `k` alone is a power of two. -/
theorem ofBits_field (k : ℕ) (h1 : 1 ≤ k) (h2 : k ≤ 254) :
    Ideal.ofBits .f32 (BitVec.ofNat 32 k <<< 23) = (((2 : ℝ) ^ ((k : ℤ) - 127) : ℝ) : EReal) := by
  have hx : ∀ j : Fin 256, ((BitVec.ofNat 32 j.val <<< 23).extractLsb' 23 8).toNat = j.val := by decide +kernel
  have hf : ∀ j : Fin 256, ((BitVec.ofNat 32 j.val <<< 23).extractLsb' 0 23).toNat = 0 := by decide +kernel
  have hs : ∀ j : Fin 256, ((BitVec.ofNat 32 j.val <<< 23).extractLsb' (8 + 23) 1 == 1#1) = false := by decide +kernel
  have ha := hx ⟨k, by omega⟩
  have hb := hf ⟨k, by omega⟩
  have hc := hs ⟨k, by omega⟩
  clear hx hf hs
  dsimp only at ha hb hc
  unfold Ideal.ofBits Ideal.ieee
  dsimp only
  generalize (BitVec.ofNat 32 k <<< 23 : BitVec 32) = w at ha hb hc ⊢
  erw [ha, hb, hc]
  rw [if_neg (by norm_num; omega), if_neg (by omega)]
  congr 1
  rw [if_neg (by simp), one_mul, Nat.add_zero]
  have : (2 : ℝ) ^ ((k : ℤ) - 127) = 2 ^ (23 : ℤ) * 2 ^ ((k : ℤ) - 127 - 23) := by
    rw [← zpow_add₀ two_ne_zero]; congr 1; ring
  rw [this]
  norm_num

theorem ofBits_inf : Ideal.ofBits .f32 (BitVec.ofNat 32 255 <<< 23) = ⊤ := by
  show Ideal.ofBits .f32 0x7F800000#32 = ⊤
  simp [Ideal.ofBits, Ideal.ieee]

/-- The reciprocal of 448, rounded to binary32. -/
def c448 : ℝ := 9586981 * 2 ^ (-32 : ℤ)
theorem ofBits_c448 : Ideal.ofBits .f32 0x3B124925#32 = ((c448 : ℝ) : EReal) := by
  simp [Ideal.ofBits, Ideal.ieee, c448, -EReal.coe_mul]
theorem c448_pos : 0 < c448 := by unfold c448; positivity
theorem c448_le : c448 ≤ 1 / 256 := by unfold c448; norm_num

theorem ofBits_ninf : Ideal.ofBits .f32 0xFF800000#32 = ⊥ := by simp [Ideal.ofBits, Ideal.ieee]
theorem ofBits_ninf16 : Ideal.ofBits .bf16 0xFF80#16 = ⊥ := by simp [Ideal.ofBits, Ideal.ieee]
theorem ofBits_448 : Ideal.ofBits .f32 0x43E00000#32 = ((448 : ℝ) : EReal) := by
  simp [Ideal.ofBits, Ideal.ieee, -EReal.coe_mul]; norm_num
theorem ofBits_n448 : Ideal.ofBits .f32 0xC3E00000#32 = ((-448 : ℝ) : EReal) := by
  simp [Ideal.ofBits, Ideal.ieee, -EReal.coe_mul]; norm_num
theorem ofBits_n126 : Ideal.ofBits .f32 0xC2FC0000#32 = ((-126 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The largest finite bfloat16. -/
def big : ℝ := 255 * 2 ^ (120 : ℕ)
theorem ofBits_big : Ideal.ofBits .bf16 0x7F7F#16 = ((big : ℝ) : EReal) := by
  simp [Ideal.ofBits, Ideal.ieee, big, -EReal.coe_mul]
theorem big_pos : 0 < big := by unfold big; positivity
theorem big_c448 : big * c448 < 2 ^ 126 := by unfold big c448; norm_num

/-! ## The quantiser -/

/-- The largest magnitude, -/
def amax {n : ℕ} (f : Fin (n + 1) → ℝ) : ℝ := top fun k => |f k|
/-- the exponent, -/
def qe {n : ℕ} (f : Fin (n + 1) → ℝ) : ℤ := eQ (amax f * c448)
/-- the scale -/
def qsc {n : ℕ} (f : Fin (n + 1) → ℝ) : ℝ := 2 ^ qe f
/-- and a code of a number under a scale's exponent. -/
def code (x : ℝ) (e : ℤ) : ℝ := min 448 (max (-448) (x * 2 ^ (-e)))
def qcd {n : ℕ} (f : Fin (n + 1) → ℝ) (k : Fin (n + 1)) : ℝ := code (f k) (qe f)

theorem amax_nonneg {n : ℕ} (f : Fin (n + 1) → ℝ) : 0 ≤ amax f := (abs_nonneg (f 0)).trans (le_top (fun k => |f k|) 0)
theorem amax_le {n : ℕ} {f : Fin (n + 1) → ℝ} {b : ℝ} (h : ∀ k, |f k| ≤ b) : amax f ≤ b := top_le h
theorem aq_nonneg {n : ℕ} (f : Fin (n + 1) → ℝ) : 0 ≤ amax f * c448 := mul_nonneg (amax_nonneg f) c448_pos.le
theorem aq_lt {n : ℕ} {f : Fin (n + 1) → ℝ} (h : ∀ k, |f k| ≤ big) : amax f * c448 < 2 ^ 126 :=
  lt_of_le_of_lt (mul_le_mul_of_nonneg_right (amax_le h) c448_pos.le) big_c448
theorem qe_ge {n : ℕ} (f : Fin (n + 1) → ℝ) : -126 ≤ qe f := eQ_ge _
theorem qe_le {n : ℕ} {f : Fin (n + 1) → ℝ} (h : ∀ k, |f k| ≤ big) : qe f ≤ 126 := eQ_le (aq_nonneg f) (aq_lt h)
theorem qsc_pos {n : ℕ} (f : Fin (n + 1) → ℝ) : 0 < qsc f := by unfold qsc; positivity

theorem abs_code_le (x : ℝ) (e : ℤ) : |code x e| ≤ |x| * 2 ^ (-e) := by
  unfold code
  have h : |x| * 2 ^ (-e) = |x * 2 ^ (-e)| := by rw [abs_mul, abs_of_pos (by positivity : (0 : ℝ) < 2 ^ (-e))]
  rw [h]
  generalize x * 2 ^ (-e) = y
  rcases abs_cases y with ⟨h1, h2⟩ | ⟨h1, h2⟩ <;> rw [h1, abs_le] <;> constructor
  · exact le_min (by linarith) (le_max_of_le_right (by linarith))
  · exact (min_le_right _ _).trans (max_le (by linarith) le_rfl)
  · exact le_min (by linarith) (le_max_of_le_right (by linarith))
  · exact (min_le_right _ _).trans (max_le (by linarith) (by linarith))

theorem abs_qcd_mul_qsc_le {n : ℕ} (f : Fin (n + 1) → ℝ) (k : Fin (n + 1)) : |qcd f k * qsc f| ≤ |f k| := by
  have := abs_code_le (f k) (qe f)
  unfold qcd qsc
  rw [abs_mul, abs_of_pos (by positivity : (0 : ℝ) < 2 ^ qe f)]
  calc _ ≤ |f k| * 2 ^ (-qe f) * 2 ^ qe f := mul_le_mul_of_nonneg_right this (by positivity)
    _ = |f k| := by rw [mul_assoc, ← zpow_add₀ two_ne_zero]; simp

end Cert.Model

end
end
-- ==== Proof.KiQuant.lean ====
/- The quantiser of the body read over the reals: exponents, scales and codes, for any number of rows and columns. -/
module

public import proofs.«01_k».proof.Proof.KiSpec
public import proofs.«01_k».proof.Proof.Model
public import Idealize.ShloMosaic.Lib.Pointwise
public import Idealize.ShloMosaic.Lib.WordSum
public import Idealize.ShloMosaic.Lib.Pipeline.Value

@[expose] public section

set_option maxRecDepth 16384

noncomputable section

namespace Cert.KernelIdeal.Hand

open Cert.KernelIdeal Cert.KernelIdeal.Gen Cert.Model
open Idealize.ShloMosaic Idealize.ShloMosaic.TcCoe

/-! ## Rows and columns, read at an index -/

theorem row_apply {n : ℕ} {α : Type} (Y : (Sv n).Idx → α) (h : (Sv n).ShapeCasts (Sh 1 n)) (c : Fin n) :
    shapeCast (Sh 1 n) Y h (ix2 0 c) = Y (ix1 c) := by
  refine shapeCast_apply Y h (ix2 0 c) (ix1 c) ?_
  rw [Shape.rowMajor_val_one, Shape.rowMajor_val_two]
  show c.val = 0 * n + c.val
  omega

theorem bcRow_apply {m n : ℕ} {α : Type} (Y : (Sh 1 n).Idx → α) (h : (Sh 1 n).Broadcasts (Sh m n)) (k : Fin m) (c : Fin n) :
    broadcastTo (Sh m n) Y h (ix2 k c) = Y (ix2 0 c) := by
  refine broadcastTo_apply Y h (ix2 k c) (ix2 0 c) fun a => ?_
  fin_cases a
  · rfl
  · show c.val = if n = 1 then 0 else c.val
    split
    · have := c.isLt; omega
    · rfl

theorem bcCol_apply {m n : ℕ} {α : Type} (Y : (Sh m 1).Idx → α) (h : (Sh m 1).Broadcasts (Sh m n)) (k : Fin m) (c : Fin n) :
    broadcastTo (Sh m n) Y h (ix2 k c) = Y (ix2 k 0) := by
  refine broadcastTo_apply Y h (ix2 k c) (ix2 k 0) fun a => ?_
  fin_cases a
  · show k.val = if m = 1 then 0 else k.val
    split
    · have := k.isLt; omega
    · rfl
  · rfl

theorem leasts_apply (f : Fin 255) :
    leasts (F := Ideal) (ix2 f 0) = if f.val < 254 then (((2 : ℝ) ^ ((f.val : ℤ) - 126) : ℝ) : EReal) else ⊤ := by
  have e : leasts (F := Ideal) (ix2 f 0) = Ideal.ofBits .f32 (BitVec.ofNat 32 (f.val + 1) <<< 23) := by
    unfold leasts
    show Ideal.ofBits .f32 ((BitVec.ofNat 32 (0 * 255 + f.val) + 1#32) <<< 23) = _
    rw [Nat.zero_mul, Nat.zero_add, BitVec.ofNat_add]
  rw [e]
  split
  · rw [ofBits_field _ (by omega) (by omega)]
    congr 2
    push_cast; ring
  · rw [show f.val + 1 = 255 by omega, ofBits_inf]

section Quantiser

variable {r n : ℕ} (h : QF r n)

theorem count_apply (aq : FVec Ideal (Sh 1 n) .f32) (c : Fin n) (q : ℝ) (h0 : 0 < q) (hq : q < 2 ^ 126) (ha : aq (ix2 0 c) = (q : EReal)) :
    multiReductionI .add [0] (Sv n)
        (extui 32 (cmpf .oge (broadcastTo (Sh 255 n) aq h.b255) (broadcastTo (Sh 255 n) (leasts (F := Ideal)) h.f255)) natLt_1_32) 0#32 h.red255 rfl (ix1 c)
      = BitVec.ofNat 32 (max (⌊Real.log q / Real.log 2⌋ + 127) 0).toNat := by
  have hN := count_le h0 hq
  set N := (Finset.univ.filter fun f : Fin 255 => f.val < 254 ∧ (2 : ℝ) ^ ((f.val : ℤ) - 126) ≤ q).card with hNd
  have hN255 : N ≤ 255 := by simpa using Finset.card_le_univ (Finset.univ.filter fun f : Fin 255 => f.val < 254 ∧ (2 : ℝ) ^ ((f.val : ℤ) - 126) ≤ q)
  have hs : ∑ i ∈ Finset.univ.filter (fun i => h.red255.drop i = ix1 c),
      ((extui 32 (cmpf .oge (broadcastTo (Sh 255 n) aq h.b255) (broadcastTo (Sh 255 n) (leasts (F := Ideal)) h.f255)) natLt_1_32) i).toNat = N := by
    rw [h.red255.sum_fiber_r2_a0, hNd, Finset.card_filter]
    refine Finset.sum_congr rfl fun f _ => ?_
    have e1 : broadcastTo (Sh 255 n) aq h.b255 (ix2 f c) = aq (ix2 0 c) := bcRow_apply _ _ _ _
    have e2 : broadcastTo (Sh 255 n) (leasts (F := Ideal)) h.f255 (ix2 f c) = leasts (F := Ideal) (ix2 f 0) := bcCol_apply _ _ _ _
    show ((Ideal.cmp .oge (broadcastTo (Sh 255 n) aq h.b255 (ix2 f c)) (broadcastTo (Sh 255 n) (leasts (F := Ideal)) h.f255 (ix2 f c))).setWidth 32).toNat = _
    rw [e1, e2, ha, leasts_apply]
    unfold Ideal.cmp
    by_cases hf : f.val < 254
    · simp only [hf, if_true, true_and, EReal.coe_le_coe_iff]
      by_cases hc : (2 : ℝ) ^ ((f.val : ℤ) - 126) ≤ q
      · rw [if_pos hc]; simp [hc]
      · rw [if_neg hc]; simp [hc]
    · simp only [hf, if_false, false_and]
      simp
  have ht := WordSum.toNat_multiReductionI_add
    (extui 32 (cmpf .oge (broadcastTo (Sh 255 n) aq h.b255) (broadcastTo (Sh 255 n) (leasts (F := Ideal)) h.f255)) natLt_1_32) h.red255 rfl (ix1 c) (by rw [hs]; omega)
  rw [hs] at ht
  apply BitVec.eq_of_toNat_eq
  rw [ht, BitVec.toNat_ofNat, ← hN]
  omega

theorem expOf_apply (aq : FVec Ideal (Sh 1 n) .f32) (c : Fin n) (q : ℝ) (h0 : 0 ≤ q) (hq : q < 2 ^ 126) (ha : aq (ix2 0 c) = (q : EReal)) :
    expOf h aq (ix2 0 c) = BitVec.ofInt 32 (eQ q) := by
  have e : expOf h aq (ix2 0 c) = Scalar.select (Ideal.cmp .oeq (aq (ix2 0 c)) (Ideal.ofBits .f32 0x00000000#32)) 0#32
      (multiReductionI .add [0] (Sv n)
        (extui 32 (cmpf .oge (broadcastTo (Sh 255 n) aq h.b255) (broadcastTo (Sh 255 n) (leasts (F := Ideal)) h.f255)) natLt_1_32) 0#32 h.red255 rfl (ix1 c) - 126#32) := by
    unfold expOf
    generalize multiReductionI .add [0] (Sv n)
        (extui 32 (cmpf .oge (broadcastTo (Sh 255 n) aq h.b255) (broadcastTo (Sh 255 n) (leasts (F := Ideal)) h.f255)) natLt_1_32) 0#32 h.red255 rfl = Y
    have e1 : shapeCast (Sh 1 n) Y h.cast (ix2 0 c) = Y (ix1 c) := row_apply _ _ _
    rw [← e1]
    rfl
  rw [e, ha]
  by_cases hz : q = 0
  · subst hz
    have : Ideal.cmp .oeq ((0 : ℝ) : EReal) (Ideal.ofBits .f32 0x00000000#32) = 1#1 := by
      rw [Ideal.ofBits_zero_f32]; simp [Ideal.cmp]
    rw [this]
    simp [Scalar.select, eQ]
  · have hp : 0 < q := lt_of_le_of_ne h0 (Ne.symm hz)
    have : Ideal.cmp .oeq (q : EReal) (Ideal.ofBits .f32 0x00000000#32) = 0#1 := by
      rw [Ideal.ofBits_zero_f32]; simp [Ideal.cmp, hz]
    rw [this, count_apply h aq c q hp hq ha]
    have hl := floor_lt hp hq
    unfold eQ
    rw [if_neg hz]
    generalize ⌊Real.log q / Real.log 2⌋ = L at hl ⊢
    have hm : max (L + 1) (-126) = ((max (L + 127) 0).toNat : ℤ) - 126 := by omega
    rw [hm]
    generalize (max (L + 127) 0).toNat = N
    simp [Scalar.select]
    rw [BitVec.sub_eq_add_neg, Int.sub_eq_add_neg, BitVec.ofInt_add]
    rfl

theorem scaleOf_apply (e : IVec (Sh 1 n) 32) (c : Fin n) (z : ℤ) (h1 : -126 ≤ z) (h2 : z ≤ 126) (he : e (ix2 0 c) = BitVec.ofInt 32 z) :
    scaleOf (F := Ideal) e (ix2 0 c) = (((2 : ℝ) ^ z : ℝ) : EReal) := by
  have : scaleOf (F := Ideal) e (ix2 0 c) = Ideal.ofBits .f32 ((127#32 + e (ix2 0 c)) <<< 23) := rfl
  rw [this, he]
  have hb : 127#32 + BitVec.ofInt 32 z = BitVec.ofNat 32 (127 + z).toNat := by
    rw [show BitVec.ofNat 32 (127 + z).toNat = BitVec.ofInt 32 ((127 + z).toNat : ℤ) from (BitVec.ofInt_natCast _ _).symm, Int.toNat_of_nonneg (by omega), BitVec.ofInt_add]; rfl
  rw [hb, ofBits_field _ (by omega) (by omega)]
  congr 2
  rw [Int.toNat_of_nonneg (by omega)]; ring

theorem invOf_apply (e : IVec (Sh 1 n) 32) (c : Fin n) (z : ℤ) (h1 : -126 ≤ z) (h2 : z ≤ 126) (he : e (ix2 0 c) = BitVec.ofInt 32 z) :
    invOf (F := Ideal) e (ix2 0 c) = (((2 : ℝ) ^ (-z) : ℝ) : EReal) := by
  have : invOf (F := Ideal) e (ix2 0 c) = Ideal.ofBits .f32 ((127#32 - e (ix2 0 c)) <<< 23) := rfl
  rw [this, he]
  have hb : 127#32 - BitVec.ofInt 32 z = BitVec.ofNat 32 (127 - z).toNat := by
    rw [show BitVec.ofNat 32 (127 - z).toNat = BitVec.ofInt 32 ((127 - z).toNat : ℤ) from (BitVec.ofInt_natCast _ _).symm, Int.toNat_of_nonneg (by omega), BitVec.sub_eq_add_neg, Int.sub_eq_add_neg, BitVec.ofInt_add, BitVec.ofInt_neg]; rfl
  rw [hb, ofBits_field _ (by omega) (by omega)]
  congr 2
  rw [Int.toNat_of_nonneg (by omega)]; ring

end Quantiser

section Codes

variable {r n : ℕ} (h : QF (r + 1) n) (x : FVec Ideal (Sh (r + 1) n) .bf16) (c : Fin n) (f : Fin (r + 1) → ℝ)
  (hx : ∀ k, x (ix2 k c) = (f k : EReal))

include hx in
theorem aqOf_apply : aqOf h x (ix2 0 c) = ((amax f * c448 : ℝ) : EReal) := by
  have e : aqOf h x (ix2 0 c) = multiReduction .maximumf [0] (Sv n) (absf x) 0xFF80#16 h.red (.inr rfl) rfl (ix1 c) * Ideal.ofBits .f32 0x3B124925#32 := by
    unfold aqOf
    generalize multiReduction .maximumf [0] (Sv n) (absf x) 0xFF80#16 h.red (.inr rfl) rfl = Y
    have e1 : shapeCast (Sh 1 n) Y h.cast (ix2 0 c) = Y (ix1 c) := row_apply _ _ _
    rw [← e1]
    rfl
  rw [e, ofBits_c448, EReal.coe_mul]
  congr 1
  refine (multiReduction_maximumf_eq_fold _ _ _ _ _ _).trans ?_
  rw [h.red.fold_fiber_r2_a0]
  show (Finset.univ : Finset (Fin (r + 1))).fold max (Ideal.ofBits .bf16 0xFF80#16) _ = _
  rw [ofBits_ninf16]
  refine fold_top _ _ fun k => ?_
  show max (x (ix2 k c)) (-(x (ix2 k c))) = _
  rw [hx, coe_abs]

variable (hb : ∀ k, |f k| ≤ big)
include hx hb

theorem qExp_apply : expOf h (aqOf h x) (ix2 0 c) = BitVec.ofInt 32 (qe f) :=
  expOf_apply h _ c _ (aq_nonneg f) (aq_lt hb) (aqOf_apply h x c f hx)

theorem qScale_apply : qScale h x (ix2 0 c) = ((qsc f : ℝ) : EReal) :=
  scaleOf_apply _ c _ (qe_ge f) (qe_le hb) (qExp_apply h x c f hx hb)

theorem qCodes_apply (k : Fin (r + 1)) : qCodes h x (ix2 k c) = ((qcd f k : ℝ) : EReal) := by
  have e1 : broadcastTo (Sh (r + 1) n) (truncf .bf16 (invOf (F := Ideal) (expOf h (aqOf h x))) bitsLt_bf16_f32) h.bc (ix2 k c)
      = invOf (F := Ideal) (expOf h (aqOf h x)) (ix2 0 c) := by
    exact bcRow_apply _ _ _ _
  have : qCodes h x (ix2 k c) = min (Ideal.ofBits .f32 0x43E00000#32) (max (Ideal.ofBits .f32 0xC3E00000#32) (x (ix2 k c) *
      broadcastTo (Sh (r + 1) n) (truncf .bf16 (invOf (F := Ideal) (expOf h (aqOf h x))) bitsLt_bf16_f32) h.bc (ix2 k c))) := rfl
  rw [this, e1, invOf_apply _ c _ (qe_ge f) (qe_le hb) (qExp_apply h x c f hx hb), hx, ofBits_448, ofBits_n448, ← EReal.coe_mul, ← coe_max, ← coe_min]
  rfl

end Codes

end Cert.KernelIdeal.Hand

end
end
-- ==== Proof.ModelAttn.lean ====
/- Attention over the reals, from the codes and the scales: the weights, their sum and the weighted sum of values, and
   the arrays that the certificate claims, as functions of the three inputs. -/
module

public import proofs.«01_k».proof.Proof.Model

@[expose] public section

set_option maxRecDepth 16384

noncomputable section

namespace Cert.Model

open Idealize.ShloMosaic

theorem top_mul {n : ℕ} (f : Fin (n + 1) → ℝ) {c : ℝ} (hc : 0 ≤ c) : top (fun k => f k * c) = top f * c := by
  obtain ⟨k, hk⟩ := exists_top f
  exact top_eq (fun k => mul_le_mul_of_nonneg_right (le_top f k) hc) ⟨k, by rw [hk]⟩

section Head

variable (qk : Fin 64 → ℝ) (qs : ℝ) (kc : Fin 640 → Fin 64 → ℝ) (ks : Fin 640 → ℝ) (vc : Fin 640 → Fin 64 → ℝ) (vs : Fin 64 → ℝ)

/-- The product of a query's codes with a key's, in the scale of the key, -/
def sK (j : Fin 640) : ℝ := (∑ i, kc j i * qk i) * ks j
/-- and the score. -/
def sc (j : Fin 640) : ℝ := sK qk kc ks j * (qs / 8)
/-- The weights, 1 at the largest score, -/
def wt (j : Fin 640) : ℝ := Real.exp (sc qk qs kc ks j - top (sc qk qs kc ks))
/-- their sum, -/
def ws : ℝ := ∑ j, wt qk qs kc ks j
/-- the weighted sum of the values' codes, -/
def wv (d : Fin 64) : ℝ := ∑ j, vc j d * (wt qk qs kc ks j * 256)
/-- and the head's result. -/
def oh (d : Fin 64) : ℝ := wv qk qs kc ks vc d * (vs d * (1 / 256)) / ws qk qs kc ks

theorem wt_pos (j : Fin 640) : 0 < wt qk qs kc ks j := Real.exp_pos _
theorem wt_le (j : Fin 640) : wt qk qs kc ks j ≤ 1 := Real.exp_le_one_iff.2 (sub_nonpos.2 (le_top (sc qk qs kc ks) j))
theorem ws_pos : 0 < ws qk qs kc ks := Finset.sum_pos (fun j _ => wt_pos qk qs kc ks j) Finset.univ_nonempty

theorem oh_le (b : ℝ) (d : Fin 64) (hv : ∀ j, |vc j d * vs d| ≤ b) : |oh qk qs kc ks vc vs d| ≤ b := by
  have hw := ws_pos qk qs kc ks
  unfold oh
  rw [abs_div, abs_of_pos hw, div_le_iff₀ hw]
  have e : wv qk qs kc ks vc d * (vs d * (1 / 256)) = ∑ j, vc j d * vs d * wt qk qs kc ks j := by
    unfold wv
    rw [Finset.sum_mul]
    exact Finset.sum_congr rfl fun j _ => by ring
  rw [e]
  refine (Finset.abs_sum_le_sum_abs _ _).trans ?_
  unfold ws
  rw [Finset.mul_sum]
  refine Finset.sum_le_sum fun j _ => ?_
  rw [abs_mul, abs_of_pos (wt_pos qk qs kc ks j)]
  exact mul_le_mul_of_nonneg_right (hv j) (wt_pos qk qs kc ks j).le

/-- The weights by powers of two, with the largest at 256: the form with one exponent and one product. -/
theorem wt_base2 (hq : 0 < qs) (j : Fin 640) :
    Real.rpow 2 ((sK qk kc ks j - (top (sK qk kc ks) - 64 * Real.log 2 / qs)) * (qs * (8 * Real.log 2)⁻¹)) = wt qk qs kc ks j * 256 := by
  have hl : 0 < Real.log 2 := Real.log_pos one_lt_two
  have ht : top (sc qk qs kc ks) = top (sK qk kc ks) * (qs / 8) := top_mul _ (by positivity)
  show (2 : ℝ) ^ ((sK qk kc ks j - (top (sK qk kc ks) - 64 * Real.log 2 / qs)) * (qs * (8 * Real.log 2)⁻¹)) = _
  have e : (sK qk kc ks j - (top (sK qk kc ks) - 64 * Real.log 2 / qs)) * (qs * (8 * Real.log 2)⁻¹)
      = (sc qk qs kc ks j - top (sc qk qs kc ks)) / Real.log 2 + 8 := by
    rw [ht]; unfold sc; field_simp; ring
  rw [e, Real.rpow_add two_pos, Real.rpow_def_of_pos two_pos, mul_div_cancel₀ _ hl.ne']
  unfold wt
  norm_num

theorem clip_wt (j : Fin 640) : min 448 (max 0 (wt qk qs kc ks j * 256)) = wt qk qs kc ks j * 256 := by
  have h1 := wt_pos qk qs kc ks j
  have h2 := wt_le qk qs kc ks j
  rw [max_eq_right (by positivity), min_eq_right (by linarith)]

theorem oh_eq (d : Fin 64) :
    wv qk qs kc ks vc d * vs d * (1 / ∑ j, wt qk qs kc ks j * 256) = oh qk qs kc ks vc vs d := by
  have hw := ws_pos qk qs kc ks
  rw [← Finset.sum_mul]
  change _ * (1 / (ws qk qs kc ks * 256)) = _
  unfold oh
  field_simp

end Head

section Arrays

variable (x k v : ℕ → ℕ → ℕ → ℝ)

/-- A query head's row, a key head's row and a value head's column. -/
def qf (b s h : ℕ) (i : Fin 64) : ℝ := x b s (64 * h + i.val)
def vf (b g d : ℕ) (j : Fin 640) : ℝ := v b j.val (64 * g + d)

/-- A head's result at one position, -/
def oH (b s h : ℕ) (d : Fin 64) : ℝ :=
  oh (qcd (qf x b s h)) (qsc (qf x b s h)) (fun j => qcd (qf k b j.val (h / 5))) (fun j => qsc (qf k b j.val (h / 5)))
    (fun j d => qcd (vf v b (h / 5) d.val) j) (fun d => qsc (vf v b (h / 5) d.val)) d
/-- and a position's result. -/
def oF (b s : ℕ) (n : Fin 2560) : ℝ := oH x k v b s (n.val / 64) ⟨n.val % 64, by omega⟩

variable (hx : ∀ b s n, |x b s n| ≤ big) (hk : ∀ b s n, |k b s n| ≤ big) (hv : ∀ b s n, |v b s n| ≤ big)

include hv in
theorem oH_le (b s h : ℕ) (d : Fin 64) : |oH x k v b s h d| ≤ big :=
  oh_le _ _ _ _ _ _ _ d fun j => (abs_qcd_mul_qsc_le (vf v b (h / 5) d.val) j).trans (hv _ _ _)
include hv in
theorem oF_le (b s : ℕ) (n : Fin 2560) : |oF x k v b s n| ≤ big := oH_le x k v hv _ _ _ _

end Arrays

/-! ## The results -/

section Results

/-- Every entry is a finite number of bfloat16's range. -/
def Bounded {s : Shape} (A : s.Idx → EReal) : Prop := ∀ i, max (A i) (-A i) ≤ ((big : ℝ) : EReal)

/-- A three-axis array by natural coordinates, over the reals; zero outside. -/
def rd3 {p q r : ℕ} (A : (⟨3, ![p, q, r]⟩ : Shape).Idx → EReal) (b s n : ℕ) : ℝ :=
  if h : b < p ∧ s < q ∧ n < r then (A (ix3 ⟨b, h.1⟩ ⟨s, h.2.1⟩ ⟨n, h.2.2⟩)).toReal else 0

theorem toReal_of_le {a : EReal} (h : max a (-a) ≤ ((big : ℝ) : EReal)) : a = ((a.toReal : ℝ) : EReal) ∧ |a.toReal| ≤ big := by
  induction a with
  | bot => exact absurd h (by simp)
  | top => exact absurd h (by simp)
  | coe r =>
    refine ⟨rfl, ?_⟩
    rw [coe_abs] at h
    exact EReal.coe_le_coe_iff.1 h

theorem rd3_apply {p q r : ℕ} {A : (⟨3, ![p, q, r]⟩ : Shape).Idx → EReal} (h : Bounded A)
    (i : (⟨3, ![p, q, r]⟩ : Shape).Idx) : A i = ((rd3 A (i 0).val (i 1).val (i 2).val : ℝ) : EReal) := by
  have hb : (i 0).val < p ∧ (i 1).val < q ∧ (i 2).val < r := ⟨(i 0).isLt, (i 1).isLt, (i 2).isLt⟩
  unfold rd3
  rw [dif_pos hb]
  have e : i = ix3 (⟨(i 0).val, hb.1⟩ : Fin p) (⟨(i 1).val, hb.2.1⟩ : Fin q) (⟨(i 2).val, hb.2.2⟩ : Fin r) := by
    funext a
    match a with
    | ⟨0, _⟩ => rfl
    | ⟨1, _⟩ => rfl
    | ⟨2, _⟩ => rfl
  rw [← e]
  exact (toReal_of_le (h i)).1

theorem rd3_le {p q r : ℕ} {A : (⟨3, ![p, q, r]⟩ : Shape).Idx → EReal} (h : Bounded A)
    (b s n : ℕ) : |rd3 A b s n| ≤ big := by
  unfold rd3
  split
  · exact (toReal_of_le (h _)).2
  · rw [abs_zero]; exact big_pos.le

variable (x k v : ℕ → ℕ → ℕ → ℝ)

/-- The codes and the scales of the output, -/
def gOut : (⟨3, ![3, 640, 2560]⟩ : Shape).Idx → EReal := fun i => ((qcd (oF x k v (i 0).val (i 1).val) ⟨(i 2).val, (i 2).isLt⟩ : ℝ) : EReal)
def gOsc : (⟨2, ![3, 640]⟩ : Shape).Idx → EReal := fun i => ((qsc (oF x k v (i 0).val (i 1).val) : ℝ) : EReal)
/-- of the queries and of the keys, by columns, -/
def gQt {n : ℕ} : (⟨3, ![3, n, 640]⟩ : Shape).Idx → EReal := fun i => ((qcd (qf x (i 0).val (i 2).val ((i 1).val / 64)) ⟨(i 1).val % 64, Nat.mod_lt _ (by decide)⟩ : ℝ) : EReal)
def gQsc {n : ℕ} : (⟨3, ![3, n, 640]⟩ : Shape).Idx → EReal := fun i => ((qsc (qf x (i 0).val (i 2).val (i 1).val) : ℝ) : EReal)
/-- and of the values. -/
def gVt : (⟨3, ![3, 512, 640]⟩ : Shape).Idx → EReal := fun i => ((qcd (vf v (i 0).val ((i 1).val / 64) ((i 1).val % 64)) ⟨(i 2).val, (i 2).isLt⟩ : ℝ) : EReal)
def gVsc : (⟨3, ![3, 8, 64]⟩ : Shape).Idx → EReal := fun i => ((qsc (vf v (i 0).val (i 1).val (i 2).val) : ℝ) : EReal)

theorem gOut_eq (i : (⟨3, ![3, 640, 2560]⟩ : Shape).Idx) {b s n : ℕ} (h0 : (i 0).val = b) (h1 : (i 1).val = s) (h2 : (i 2).val = n) (hn : n < 2560) :
    gOut x k v i = ((qcd (oF x k v b s) ⟨n, hn⟩ : ℝ) : EReal) := by subst h0 h1 h2; rfl
theorem gOsc_eq (i : (⟨2, ![3, 640]⟩ : Shape).Idx) {b s : ℕ} (h0 : (i 0).val = b) (h1 : (i 1).val = s) :
    gOsc x k v i = ((qsc (oF x k v b s) : ℝ) : EReal) := by subst h0 h1; rfl
theorem gQt_eq {m : ℕ} (i : (⟨3, ![3, m, 640]⟩ : Shape).Idx) {b n s : ℕ} (h0 : (i 0).val = b) (h1 : (i 1).val = n) (h2 : (i 2).val = s) (hn : n % 64 < 64) :
    gQt x i = ((qcd (qf x b s (n / 64)) ⟨n % 64, hn⟩ : ℝ) : EReal) := by subst h0 h1 h2; rfl
theorem gQsc_eq {m : ℕ} (i : (⟨3, ![3, m, 640]⟩ : Shape).Idx) {b h s : ℕ} (h0 : (i 0).val = b) (h1 : (i 1).val = h) (h2 : (i 2).val = s) :
    gQsc x i = ((qsc (qf x b s h) : ℝ) : EReal) := by subst h0 h1 h2; rfl
theorem gVt_eq (i : (⟨3, ![3, 512, 640]⟩ : Shape).Idx) {b n s : ℕ} (h0 : (i 0).val = b) (h1 : (i 1).val = n) (h2 : (i 2).val = s) (hs : s < 640) :
    gVt v i = ((qcd (vf v b (n / 64) (n % 64)) ⟨s, hs⟩ : ℝ) : EReal) := by subst h0 h1 h2; rfl
theorem gVsc_eq (i : (⟨3, ![3, 8, 64]⟩ : Shape).Idx) {b g d : ℕ} (h0 : (i 0).val = b) (h1 : (i 1).val = g) (h2 : (i 2).val = d) :
    gVsc v i = ((qsc (vf v b g d) : ℝ) : EReal) := by subst h0 h1 h2; rfl

end Results

end Cert.Model

end
end
-- ==== Proof.KiAttn.lean ====
/- The attention of the body read over the reals: one unit at one column, then each head's weighted sums and the output's
   scale and codes. -/
module

public import proofs.«01_k».proof.Proof.KiQuant
public import proofs.«01_k».proof.Proof.ModelAttn

@[expose] public section

set_option maxRecDepth 16384

noncomputable section

namespace Cert.KernelIdeal.Hand

open Cert.KernelIdeal Cert.KernelIdeal.Gen Cert.Model
open Idealize.ShloMosaic Idealize.ShloMosaic.TcCoe

/-! ## Layouts -/

theorem drop_apply {r n : ℕ} {α : Type} (Y : (Sb r n).Idx → α) (h : (Sb r n).ShapeCasts (Sh r n)) (a : Fin r) (b : Fin n) :
    shapeCast (Sh r n) Y h (ix2 a b) = Y (ix3 0 a b) := by
  refine shapeCast_apply Y h (ix2 a b) (ix3 0 a b) ?_
  rw [Shape.rowMajor_val_two, Shape.rowMajor_val_three]
  show (0 * r + a.val) * n + b.val = a.val * n + b.val
  rw [Nat.zero_mul, Nat.zero_add]

theorem lift_apply {r n : ℕ} {α : Type} (Y : (Sh r n).Idx → α) (h : (Sh r n).ShapeCasts (Sb r n)) (a : Fin r) (b : Fin n) :
    shapeCast (Sb r n) Y h (ix3 0 a b) = Y (ix2 a b) := by
  refine shapeCast_apply Y h (ix3 0 a b) (ix2 a b) ?_
  rw [Shape.rowMajor_val_two, Shape.rowMajor_val_three]
  show a.val * n + b.val = (0 * r + a.val) * n + b.val
  rw [Nat.zero_mul, Nat.zero_add]

theorem self_apply {r n : ℕ} {α : Type} (Y : (Sh r n).Idx → α) (h : (Sh r n).ShapeCasts (Sh r n)) (a : Fin r) (b : Fin n) :
    shapeCast (Sh r n) Y h (ix2 a b) = Y (ix2 a b) := shapeCast_apply Y h _ _ rfl

theorem tr_apply {r n : ℕ} {α : Type} (Y : (Sh r n).Idx → α) (h : (Sh r n).Transposes [1, 0] (Sh n r)) (a : Fin n) (b : Fin r) :
    transpose (Sh n r) [1, 0] Y h (ix2 a b) = Y (ix2 b a) := by
  refine transpose_apply [1, 0] Y h (ix2 a b) (ix2 b a) fun d => ?_
  match d with
  | ⟨0, _⟩ => rfl
  | ⟨1, _⟩ => rfl

/-! ## One unit of attention at one column -/

theorem named_p_shift : Named.named (F := Ideal) κ "p_shift" (φ := .f32) 0x42317218#32 = ((64 * Real.log 2 : ℝ) : EReal) := rfl
theorem named_score_base2 : Named.named (F := Ideal) κ "score_base2" (φ := .f32) 0x3E38AA3B#32 = (((8 * Real.log 2)⁻¹ : ℝ) : EReal) := rfl

section Unit

variable {w : ℕ} (h : AF w) (c : Fin w)
variable (qk : Fin 64 → ℝ) (qs : ℝ) (kc : Fin 640 → Fin 64 → ℝ) (ks : Fin 640 → ℝ) (vc : Fin 640 → Fin 64 → ℝ) (vs : Fin 64 → ℝ)

theorem sOf_apply (kn : FVec Ideal (Sh 640 64) .fp8e4m3) (q : FVec Ideal (Sh 64 w) .fp8e4m3) (kcol : FVec Ideal (Sh 640 w) .f32)
    (hkn : ∀ j i, kn (ix2 j i) = ((kc j i : ℝ) : EReal)) (hq : ∀ i, q (ix2 i c) = ((qk i : ℝ) : EReal)) (hks : ∀ j, kcol (ix2 j c) = ((ks j : ℝ) : EReal))
    (j : Fin 640) : sOf kn q kcol (ix2 j c) = ((sK qk kc ks j : ℝ) : EReal) := by
  have e : sOf kn q kcol (ix2 j c) = FloatOps.matmul (DotDims.plain 640 64 w) none kn q (constant (Sh 640 w) .f32 0x00000000#32) (ix2 j c) * kcol (ix2 j c) := rfl
  rw [e, ix2_eq_valueIdx, Ideal.matmul_plain_apply]
  simp only [← ix2_eq_valueIdx, hkn, hq, hks, ← EReal.coe_mul, ← coe_sum]
  have z : constant (F := Ideal) (Sh 640 w) .f32 0x00000000#32 (ix2 j c) = 0 := Ideal.ofBits_zero_f32
  rw [z, zero_add, ← EReal.coe_mul]
  rfl

theorem pOf_apply (s : FVec Ideal (Sh 640 w) .f32) (q : FVec Ideal (Sh 1 w) .f32) (hqs : 0 < qs)
    (hs : ∀ j, s (ix2 j c) = ((sK qk kc ks j : ℝ) : EReal)) (hq : q (ix2 0 c) = ((qs : ℝ) : EReal)) (j : Fin 640) :
    pOf h s q (ix2 j c) = ((wt qk qs kc ks j * 256 : ℝ) : EReal) := by
  have e : pOf h s q (ix2 j c) = Ideal.exp2 ((s (ix2 j c) - broadcastTo (Sh 640 w)
      (subf (shapeCast (Sh 1 w) (multiReduction .maximumf [0] (Sv w) s 0xFF800000#32 h.red (.inl rfl) rfl) h.cast)
        (divf (broadcast (Sh 1 w) (Named.named κ "p_shift" 0x42317218#32)) q)) h.bc (ix2 j c))
      * broadcastTo (Sh 640 w) (mulf q (broadcast (Sh 1 w) (Named.named κ "score_base2" 0x3E38AA3B#32))) h.bc (ix2 j c)) := rfl
  rw [e, bcRow_apply, bcRow_apply]
  have e2 : subf (shapeCast (Sh 1 w) (multiReduction .maximumf [0] (Sv w) s 0xFF800000#32 h.red (.inl rfl) rfl) h.cast)
        (divf (broadcast (Sh 1 w) (Named.named κ "p_shift" 0x42317218#32)) q) (ix2 0 c)
      = shapeCast (Sh 1 w) (multiReduction .maximumf [0] (Sv w) s 0xFF800000#32 h.red (.inl rfl) rfl) h.cast (ix2 0 c)
        - Ideal.div (Named.named (F := Ideal) κ "p_shift" (φ := .f32) 0x42317218#32) (q (ix2 0 c)) := rfl
  have e3 : mulf q (broadcast (Sh 1 w) (Named.named κ "score_base2" 0x3E38AA3B#32)) (ix2 0 c)
      = q (ix2 0 c) * Named.named (F := Ideal) κ "score_base2" (φ := .f32) 0x3E38AA3B#32 := rfl
  have e4 : multiReduction .maximumf [0] (Sv w) s 0xFF800000#32 h.red (.inl rfl) rfl (ix1 c) = ((top (sK qk kc ks) : ℝ) : EReal) := by
    refine (multiReduction_maximumf_eq_fold _ _ _ _ _ _).trans ?_
    rw [h.red.fold_fiber_r2_a0]
    show (Finset.univ : Finset (Fin 640)).fold max (Ideal.ofBits .f32 0xFF800000#32) _ = _
    rw [ofBits_ninf]
    exact fold_top _ _ fun k => hs k
  rw [e2, e3, row_apply, e4, named_p_shift, named_score_base2, hs, hq, Ideal.div_coe hqs.ne', ← EReal.coe_mul, ← EReal.coe_sub, ← EReal.coe_sub,
    ← EReal.coe_mul, ← EReal.coe_mul, Ideal.exp2_coe, ← wt_base2 qk qs kc ks hqs j, mul_one_div]

theorem rlOf_apply (p : FVec Ideal (Sh 640 w) .f32) (hp : ∀ j, p (ix2 j c) = ((wt qk qs kc ks j * 256 : ℝ) : EReal)) :
    rlOf h p (ix2 0 c) = ((1 / ∑ j, wt qk qs kc ks j * 256 : ℝ) : EReal) := by
  have e : rlOf h p (ix2 0 c) = Ideal.div (Ideal.ofBits .f32 0x3F800000#32)
      (shapeCast (Sh 1 w) (multiReduction .add [0] (Sv w) p 0x00000000#32 h.red (.inl rfl) rfl) h.cast (ix2 0 c)) := by
    unfold rlOf
    generalize shapeCast (Sh 1 w) (multiReduction .add [0] (Sv w) p 0x00000000#32 h.red (.inl rfl) rfl) h.cast = Y
    rw [divf_apply]
    rfl
  have e4 : multiReduction .add [0] (Sv w) p 0x00000000#32 h.red (.inl rfl) rfl (ix1 c) = ((∑ j, wt qk qs kc ks j * 256 : ℝ) : EReal) := by
    show Ideal.reduceAdd h.red p (ix1 c) = _
    rw [Ideal.reduceAdd_r2_a0, coe_sum]
    exact Finset.sum_congr rfl fun k _ => hp k
  have hw : (∑ j, wt qk qs kc ks j * 256) ≠ 0 := by
    rw [← Finset.sum_mul]
    exact mul_ne_zero (ws_pos qk qs kc ks).ne' (by norm_num)
  rw [e, row_apply, e4, Ideal.ofBits_one_f32, Ideal.div_coe hw, one_mul]

theorem oOf_apply (vt : FVec Ideal (Sh 64 640) .fp8e4m3) (p : FVec Ideal (Sh 640 w) .f32)
    (hvt : ∀ d j, vt (ix2 d j) = ((vc j d : ℝ) : EReal)) (hp : ∀ j, p (ix2 j c) = ((wt qk qs kc ks j * 256 : ℝ) : EReal)) (d : Fin 64) :
    oOf vt p (ix2 d c) = ((wv qk qs kc ks vc d : ℝ) : EReal) := by
  unfold oOf
  have hc : ∀ j, truncf (F := Ideal) .fp8e4m3 (minimumf (broadcast (Sh 640 w) (Scalar.ofBits .f32 0x43E00000#32)) (maximumf (broadcast (Sh 640 w) (Scalar.ofBits .f32 0x00000000#32)) p))
      bitsLt_fp8e4m3_f32 (ix2 j c) = ((wt qk qs kc ks j * 256 : ℝ) : EReal) := by
    intro j
    show min (Ideal.ofBits .f32 0x43E00000#32) (max (Ideal.ofBits .f32 0x00000000#32) (p (ix2 j c))) = _
    rw [hp, ofBits_448, Ideal.ofBits_zero_f32, ← EReal.coe_zero, ← coe_max, ← coe_min, clip_wt]
  show FloatOps.matmul (DotDims.plain 64 640 w) none vt _ (constant (Sh 64 w) .f32 0x00000000#32) (ix2 d c) = _
  rw [ix2_eq_valueIdx, Ideal.matmul_plain_apply]
  simp only [← ix2_eq_valueIdx, hvt, hc, ← EReal.coe_mul, ← coe_sum]
  have z : constant (F := Ideal) (Sh 64 w) .f32 0x00000000#32 (ix2 d c) = 0 := Ideal.ofBits_zero_f32
  rw [z, zero_add]
  rfl

end Unit

/-! ## The slabs of one batch's block of queries, keys and values -/

section Slabs

variable (x k v : ℕ → ℕ → ℕ → ℝ) (b s0 : ℕ)
variable (hbx : ∀ b s n, |x b s n| ≤ big) (hbk : ∀ b s n, |k b s n| ≤ big) (hbv : ∀ b s n, |v b s n| ≤ big)
variable (xs : (i : ℕ) → i < 20 → FVec Ideal (Sb 128 128) .bf16) (kk vv : (i : ℕ) → i < 8 → FVec Ideal (Sb 640 64) .bf16)
variable (hx : ∀ i hi r d, xs i hi (ix3 0 r d) = ((x b (s0 + r.val) (128 * i + d.val) : ℝ) : EReal))
variable (hk : ∀ i hi j d, kk i hi (ix3 0 j d) = ((k b j.val (64 * i + d.val) : ℝ) : EReal))
variable (hv : ∀ i hi j d, vv i hi (ix3 0 j d) = ((v b j.val (64 * i + d.val) : ℝ) : EReal))

section
include hx

theorem qx_apply (h : ℕ) (hh : h < 40) (i : Fin 64) (c : Fin 128) : qx xs h hh (ix2 i c) = ((qf x b (s0 + c.val) h i : ℝ) : EReal) := by
  have hi := i.isLt
  unfold qx
  rw [extractStridedSlice_apply _ _ _ (ix2 i c) (ix2 (⟨64 * (h % 2) + i.val, by omega⟩ : Fin 128) c) (fun a => by
    match a with
    | ⟨0, _⟩ => rfl
    | ⟨1, _⟩ => exact (Nat.zero_add _).symm)]
  rw [tr_apply, drop_apply, hx]
  have e : 128 * (h / 2) + (64 * (h % 2) + i.val) = 64 * h + i.val := by omega
  exact congrArg (fun n => ((x b (s0 + c.val) n : ℝ) : EReal)) e

include hbx
theorem qc_apply (h : ℕ) (hh : h < 40) (i : Fin 64) (c : Fin 128) : qc xs h hh (ix2 i c) = ((qcd (qf x b (s0 + c.val) h) i : ℝ) : EReal) :=
  qCodes_apply qf_64_128 (qx xs h hh) c (qf x b (s0 + c.val) h) (fun i => qx_apply x b s0 xs hx h hh i c) (fun i => hbx _ _ _) i
theorem qs_apply (h : ℕ) (hh : h < 40) (c : Fin 128) : qs xs h hh (ix2 0 c) = ((qsc (qf x b (s0 + c.val) h) : ℝ) : EReal) :=
  qScale_apply qf_64_128 (qx xs h hh) c (qf x b (s0 + c.val) h) (fun i => qx_apply x b s0 xs hx h hh i c) (fun i => hbx _ _ _)

theorem qtPay_apply (h : ℕ) (hh : h < 40) (i : Fin 64) (c : Fin 128) : qtPay xs h hh (ix3 0 i c) = ((qcd (qf x b (s0 + c.val) h) i : ℝ) : EReal) :=
  (lift_apply _ _ _ _).trans (qc_apply x b s0 hbx xs hx h hh i c)
theorem qscPay_apply (h : ℕ) (hh : h < 40) (c : Fin 128) : qscPay xs h hh (ix3 0 0 c) = ((qsc (qf x b (s0 + c.val) h) : ℝ) : EReal) :=
  (lift_apply _ _ _ _).trans (qs_apply x b s0 hbx xs hx h hh c)
end

section
include hk

theorem kx_apply (g : ℕ) (hg : g < 8) (i : Fin 64) (j : Fin 640) : kx (kk g hg) (ix2 i j) = ((qf k b j.val g i : ℝ) : EReal) := by
  unfold kx
  rw [tr_apply, drop_apply, hk]
  rfl

include hbk
theorem kc_apply (g : ℕ) (hg : g < 8) (i : Fin 64) (j : Fin 640) : qCodes qf_64_640 (kx (kk g hg)) (ix2 i j) = ((qcd (qf k b j.val g) i : ℝ) : EReal) :=
  qCodes_apply qf_64_640 _ j (qf k b j.val g) (fun i => kx_apply k b kk hk g hg i j) (fun i => hbk _ _ _) i
theorem ks_apply (g : ℕ) (hg : g < 8) (j : Fin 640) : qScale qf_64_640 (kx (kk g hg)) (ix2 0 j) = ((qsc (qf k b j.val g) : ℝ) : EReal) :=
  qScale_apply qf_64_640 _ j (qf k b j.val g) (fun i => kx_apply k b kk hk g hg i j) (fun i => hbk _ _ _)

theorem ktPay_apply (g : ℕ) (hg : g < 8) (i : Fin 64) (j : Fin 640) : ktPay (kk g hg) (ix3 0 i j) = ((qcd (qf k b j.val g) i : ℝ) : EReal) :=
  (lift_apply _ _ _ _).trans (kc_apply k b hbk kk hk g hg i j)
theorem kscPay_apply (g : ℕ) (hg : g < 8) (j : Fin 640) : kscPay (kk g hg) (ix3 0 0 j) = ((qsc (qf k b j.val g) : ℝ) : EReal) :=
  (lift_apply _ _ _ _).trans (ks_apply k b hbk kk hk g hg j)
theorem knPay_apply (g : ℕ) (hg : g < 8) (j : Fin 640) (i : Fin 64) : knPay (kk g hg) (ix3 0 j i) = ((qcd (qf k b j.val g) i : ℝ) : EReal) := by
  refine (lift_apply _ _ _ _).trans ?_
  show transpose (Sh 640 64) [1, 0] (qCodes qf_64_640 (kx (kk g hg))) qf_64_640.tr (ix2 j i) = _
  rw [tr_apply]
  exact kc_apply k b hbk kk hk g hg i j
theorem kcolPay_apply (g : ℕ) (hg : g < 8) (j : Fin 640) (c : Fin 128) : kcolPay (kk g hg) (ix3 0 j c) = ((qsc (qf k b j.val g) : ℝ) : EReal) := by
  refine (lift_apply _ _ _ _).trans ?_
  rw [tr_apply, bcRow_apply, self_apply]
  exact ks_apply k b hbk kk hk g hg j
end

section
include hv

theorem vx_apply (g : ℕ) (hg : g < 8) (j : Fin 640) (d : Fin 64) : vx (vv g hg) (ix2 j d) = ((vf v b g d.val j : ℝ) : EReal) := by
  unfold vx
  rw [drop_apply, hv]
  rfl

include hbv
theorem vc_apply (g : ℕ) (hg : g < 8) (j : Fin 640) (d : Fin 64) : qCodes qf_640_64 (vx (vv g hg)) (ix2 j d) = ((qcd (vf v b g d.val) j : ℝ) : EReal) :=
  qCodes_apply qf_640_64 _ d (vf v b g d.val) (fun j => vx_apply v b vv hv g hg j d) (fun i => hbv _ _ _) j
theorem vs_apply (g : ℕ) (hg : g < 8) (d : Fin 64) : qScale qf_640_64 (vx (vv g hg)) (ix2 0 d) = ((qsc (vf v b g d.val) : ℝ) : EReal) :=
  qScale_apply qf_640_64 _ d (vf v b g d.val) (fun j => vx_apply v b vv hv g hg j d) (fun i => hbv _ _ _)

theorem vtPay_apply (g : ℕ) (hg : g < 8) (d : Fin 64) (j : Fin 640) : vtPay (vv g hg) (ix3 0 d j) = ((qcd (vf v b g d.val) j : ℝ) : EReal) := by
  refine (lift_apply _ _ _ _).trans ?_
  show transpose (Sh 64 640) [1, 0] (qCodes qf_640_64 (vx (vv g hg))) qf_640_64.tr (ix2 d j) = _
  rw [tr_apply]
  exact vc_apply v b hbv vv hv g hg j d
theorem vscPay_apply (g : ℕ) (hg : g < 8) (d : Fin 64) : vscPay (vv g hg) (ix3 0 0 d) = ((qsc (vf v b g d.val) : ℝ) : EReal) :=
  (lift_apply _ _ _ _).trans (vs_apply v b hbv vv hv g hg d)
theorem vcolPay_apply (g : ℕ) (hg : g < 8) (d : Fin 64) (c : Fin 128) : vcolPay (vv g hg) (ix2 d c) = ((qsc (vf v b g d.val) : ℝ) : EReal) := by
  refine (self_apply _ _ _ _).trans ?_
  rw [tr_apply, bcRow_apply, self_apply]
  exact vs_apply v b hbv vv hv g hg d
end

end Slabs

end Cert.KernelIdeal.Hand

end
end
-- ==== Proof.KiContents.lean ====
/- What the body's stores leave, as arrays: each array's entry under each store, and the loads that read them back. -/
module

public import Idealize.ShloMosaic.Lib.Pipeline.ValueKit.Tiles
public import Idealize.ShloMosaic.Lib.WritesUnit
public import Idealize.ShloMosaic.Lib.ValueIdxCore
public import proofs.«01_k».proof.Proof.KiSpec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window cellOf)

variable {F : FTy → Type} [FloatOps F] [Named F]

local notation "𝕄" => MT nD τ sig Unit (Elt F) ℕ (UR sig nD τ) ℕ

/-- Stores of equal blocks set apart along one axis: the array they leave reads, under each block, that block. -/
theorem canon_rev {S : Shape} {e : EltTy} (N : ℕ) (off : ℕ → Fin S.rank → ℕ) (size : Fin S.rank → ℕ)
    (inb : ∀ i, i < N → ∀ a, off i a + size a ≤ S.size a) (pay : (i : ℕ) → i < N → (⟨S.rank, size⟩ : Shape).Idx → Elt F e)
    (a : Fin S.rank) (hsep : ∀ i j, i < j → off i a + size a ≤ off j a) (i : ℕ) (hi : i < N)
    (x : (⟨S.rank, size⟩ : Shape).Idx) (y : S.Idx) (hy : ∀ b, (y b : ℕ) = off i b + x b) :
    View.canon (List.ofFn fun k : Fin N => (⟨Rect.unit (off (N - 1 - k.val)) size (inb _ (by omega)), pay (N - 1 - k.val) (by omega)⟩ : View.Piece (Elt F) S e)) y
      = pay i hi x := by
  have hk : N - 1 - (N - 1 - i) = i := by omega
  refine View.canon_ofFn_eq_of_forall (fun k : Fin N => Rect.unit (off (N - 1 - k.val)) size (inb _ (by omega)))
    (fun k => pay (N - 1 - k.val) (by omega)) y (pay i hi x) ⟨⟨N - 1 - i, by omega⟩, ?_⟩ ?_
  · refine Rect.mem_set_unit.mpr fun b => ?_
    have hx : (x b : ℕ) < size b := (x b).isLt
    have := hy b
    simp only [hk]; omega
  · intro k x' hx'
    have hv : ∀ b, (y b : ℕ) = off (N - 1 - k.val) b + x' b := fun b => by rw [← hx', Rect.emb_apply]; show off _ b + 1 * (x' b : ℕ) = _; rw [Nat.one_mul]
    have hki : N - 1 - k.val = i := by
      rcases Nat.lt_trichotomy (N - 1 - k.val) i with h | h | h
      · have h1 := hsep _ _ h; have h2 := hv a; have h3 := hy a; have h4 : (x' a : ℕ) < size a := (x' a).isLt; omega
      · exact h
      · have h1 := hsep _ _ h; have h2 := hv a; have h3 := hy a; have h4 : (x a : ℕ) < size a := (x a).isLt; omega
    have hxx : x' = x := funext fun (b : Fin S.rank) => Fin.ext (by
      have h1 := hv b; have h2 := hy b; have h3 : off (N - 1 - k.val) b = off i b := by rw [hki]
      omega)
    subst hxx
    simp only [hki]

/-- Slab `i` of the query block -/
def slX (x : Vec F S1x128x2560 .bf16) (i : ℕ) (hi : i < 20) : FVec F (Sb 128 128) .bf16 :=
  View.ld x (Rect.unit (s := S1x128x2560) ![0, 0, 128 * i] S1x128x128.size (inb_x i hi))
/-- and of the keys or the values. -/
def slK (x : Vec F S1x640x512 .bf16) (i : ℕ) (hi : i < 8) : FVec F (Sb 640 64) .bf16 :=
  View.ld x (Rect.unit (s := S1x640x512) ![0, 0, 64 * i] S1x640x64.size (inb_k i hi))

theorem ldX_eq (arg2 : Memref sig .tc .vmem S1x128x2560 .bf16) (harg2 : arg2.IsWhole) (x : Vec F S1x128x2560 .bf16) :
    ldX arg2 harg2 x = slX x := by
  funext i hi
  unfold slX
  exact (View.readAt_eq_ld _ _ _).trans (by rw [harg2.read_unread])
theorem ldK_eq (arg3 : Memref sig .tc .vmem S1x640x512 .bf16) (harg3 : arg3.IsWhole) (x : Vec F S1x640x512 .bf16) :
    ldK arg3 harg3 x = slK x := by
  funext i hi
  unfold slK
  exact (View.readAt_eq_ld _ _ _).trans (by rw [harg3.read_unread])

section Lists

variable (xs : (i : ℕ) → i < 20 → FVec F (Sb 128 128) .bf16) (P : Prep F)
variable (ks vs : (i : ℕ) → i < 8 → FVec F (Sb 640 64) .bf16) (u : (h : ℕ) → h < 40 → FVec F (Sh 64 128) .f32)

theorem cover_Qt (y : (Shape.Idx S1x2560x128)) : ∃ p ∈ listQt (F := F) xs, y ∈ p.1.set := View.cover_of_tiledL (s := S1x2560x128) (listQt (F := F) xs) S1x64x128.size (by sl_kernel_rfl) y
theorem read_Qt {sp : Space} {κ' : Kind} (v : View sig κ' sp S1x2560x128 .fp8e4m3) (f : v.ty.Contents (Elt F)) :
    v.read (Elt F) (v.writes (Elt F) f (listQt xs)) = View.canon (listQt xs) :=
  View.read_writes_eq_canon v f _ (cover_Qt xs)
theorem canon_Qt (i : ℕ) (hi : i < 40) (x : Shape.Idx S1x64x128) (y : Shape.Idx S1x2560x128) (hy : ∀ b, (y b : ℕ) = (![0, 64 * i, 0] : Fin _ → ℕ) b + x b) :
    View.canon (listQt xs) y = qtPay xs i hi x :=
  canon_rev (S := S1x2560x128) (e := .fp8e4m3) 40 (fun i => ![0, 64 * i, 0]) S1x64x128.size inb_qt (fun i hi => qtPay xs i hi) ⟨1, by decide⟩
    (fun i j hij => by (try simp [S1x64x128]); (try omega)) i hi x y hy
theorem cover_Qsc (y : (Shape.Idx S1x40x128)) : ∃ p ∈ listQsc (F := F) xs, y ∈ p.1.set := View.cover_of_tiledL (s := S1x40x128) (listQsc (F := F) xs) S1x1x128.size (by sl_kernel_rfl) y
theorem read_Qsc {sp : Space} {κ' : Kind} (v : View sig κ' sp S1x40x128 .f32) (f : v.ty.Contents (Elt F)) :
    v.read (Elt F) (v.writes (Elt F) f (listQsc xs)) = View.canon (listQsc xs) :=
  View.read_writes_eq_canon v f _ (cover_Qsc xs)
theorem canon_Qsc (i : ℕ) (hi : i < 40) (x : Shape.Idx S1x1x128) (y : Shape.Idx S1x40x128) (hy : ∀ b, (y b : ℕ) = (![0, i, 0] : Fin _ → ℕ) b + x b) :
    View.canon (listQsc xs) y = qscPay xs i hi x :=
  canon_rev (S := S1x40x128) (e := .f32) 40 (fun i => ![0, i, 0]) S1x1x128.size inb_qsc (fun i hi => qscPay xs i hi) ⟨1, by decide⟩
    (fun i j hij => by (try simp [S1x1x128]); (try omega)) i hi x y hy
theorem cover_U (y : (Shape.Idx S2560x128)) : ∃ p ∈ listU (F := F) xs P, y ∈ p.1.set := View.cover_of_tiledL (s := S2560x128) (listU (F := F) xs P) S64x128.size (by sl_kernel_rfl) y
theorem read_U {sp : Space} {κ' : Kind} (v : View sig κ' sp S2560x128 .f32) (f : v.ty.Contents (Elt F)) :
    v.read (Elt F) (v.writes (Elt F) f (listU xs P)) = View.canon (listU xs P) :=
  View.read_writes_eq_canon v f _ (cover_U xs P)
theorem canon_U (i : ℕ) (hi : i < 40) (x : Shape.Idx S64x128) (y : Shape.Idx S2560x128) (hy : ∀ b, (y b : ℕ) = (![64 * i, 0] : Fin _ → ℕ) b + x b) :
    View.canon (listU xs P) y = uPay xs P i hi x :=
  canon_rev (S := S2560x128) (e := .f32) 40 (fun i => ![64 * i, 0]) S64x128.size inb_u (fun i hi => uPay xs P i hi) ⟨0, by decide⟩
    (fun i j hij => by (try simp [S64x128]); (try omega)) i hi x y hy
theorem cover_Out (y : (Shape.Idx S1x128x2560)) : ∃ p ∈ listOut (F := F) xs P u, y ∈ p.1.set := View.cover_of_tiledL (s := S1x128x2560) (listOut (F := F) xs P u) S1x128x128.size (by sl_kernel_rfl) y
theorem read_Out {sp : Space} {κ' : Kind} (v : View sig κ' sp S1x128x2560 .fp8e4m3) (f : v.ty.Contents (Elt F)) :
    v.read (Elt F) (v.writes (Elt F) f (listOut xs P u)) = View.canon (listOut xs P u) :=
  View.read_writes_eq_canon v f _ (cover_Out xs P u)
theorem canon_Out (i : ℕ) (hi : i < 20) (x : Shape.Idx S1x128x128) (y : Shape.Idx S1x128x2560) (hy : ∀ b, (y b : ℕ) = (![0, 0, 128 * i] : Fin _ → ℕ) b + x b) :
    View.canon (listOut xs P u) y = outPay xs P u i hi x :=
  canon_rev (S := S1x128x2560) (e := .fp8e4m3) 20 (fun i => ![0, 0, 128 * i]) S1x128x128.size inb_x (fun i hi => outPay xs P u i hi) ⟨2, by decide⟩
    (fun i j hij => by (try simp [S1x128x128]); (try omega)) i hi x y hy
theorem cover_Kt (y : (Shape.Idx S1x512x640)) : ∃ p ∈ listKt (F := F) ks, y ∈ p.1.set := View.cover_of_tiledL (s := S1x512x640) (listKt (F := F) ks) S1x64x640.size (by sl_kernel_rfl) y
theorem read_Kt {sp : Space} {κ' : Kind} (v : View sig κ' sp S1x512x640 .fp8e4m3) (f : v.ty.Contents (Elt F)) :
    v.read (Elt F) (v.writes (Elt F) f (listKt ks)) = View.canon (listKt ks) :=
  View.read_writes_eq_canon v f _ (cover_Kt ks)
theorem canon_Kt (i : ℕ) (hi : i < 8) (x : Shape.Idx S1x64x640) (y : Shape.Idx S1x512x640) (hy : ∀ b, (y b : ℕ) = (![0, 64 * i, 0] : Fin _ → ℕ) b + x b) :
    View.canon (listKt ks) y = ktPay (ks i hi) x :=
  canon_rev (S := S1x512x640) (e := .fp8e4m3) 8 (fun i => ![0, 64 * i, 0]) S1x64x640.size inb_vt (fun i hi => ktPay (ks i hi)) ⟨1, by decide⟩
    (fun i j hij => by (try simp [S1x64x640]); (try omega)) i hi x y hy
theorem cover_Ksc (y : (Shape.Idx S1x8x640)) : ∃ p ∈ listKsc (F := F) ks, y ∈ p.1.set := View.cover_of_tiledL (s := S1x8x640) (listKsc (F := F) ks) S1x1x640.size (by sl_kernel_rfl) y
theorem read_Ksc {sp : Space} {κ' : Kind} (v : View sig κ' sp S1x8x640 .f32) (f : v.ty.Contents (Elt F)) :
    v.read (Elt F) (v.writes (Elt F) f (listKsc ks)) = View.canon (listKsc ks) :=
  View.read_writes_eq_canon v f _ (cover_Ksc ks)
theorem canon_Ksc (i : ℕ) (hi : i < 8) (x : Shape.Idx S1x1x640) (y : Shape.Idx S1x8x640) (hy : ∀ b, (y b : ℕ) = (![0, i, 0] : Fin _ → ℕ) b + x b) :
    View.canon (listKsc ks) y = kscPay (ks i hi) x :=
  canon_rev (S := S1x8x640) (e := .f32) 8 (fun i => ![0, i, 0]) S1x1x640.size inb_row (fun i hi => kscPay (ks i hi)) ⟨1, by decide⟩
    (fun i j hij => by (try simp [S1x1x640]); (try omega)) i hi x y hy
theorem cover_Vt (y : (Shape.Idx S1x512x640)) : ∃ p ∈ listVt (F := F) vs, y ∈ p.1.set := View.cover_of_tiledL (s := S1x512x640) (listVt (F := F) vs) S1x64x640.size (by sl_kernel_rfl) y
theorem read_Vt {sp : Space} {κ' : Kind} (v : View sig κ' sp S1x512x640 .fp8e4m3) (f : v.ty.Contents (Elt F)) :
    v.read (Elt F) (v.writes (Elt F) f (listVt vs)) = View.canon (listVt vs) :=
  View.read_writes_eq_canon v f _ (cover_Vt vs)
theorem canon_Vt (i : ℕ) (hi : i < 8) (x : Shape.Idx S1x64x640) (y : Shape.Idx S1x512x640) (hy : ∀ b, (y b : ℕ) = (![0, 64 * i, 0] : Fin _ → ℕ) b + x b) :
    View.canon (listVt vs) y = vtPay (vs i hi) x :=
  canon_rev (S := S1x512x640) (e := .fp8e4m3) 8 (fun i => ![0, 64 * i, 0]) S1x64x640.size inb_vt (fun i hi => vtPay (vs i hi)) ⟨1, by decide⟩
    (fun i j hij => by (try simp [S1x64x640]); (try omega)) i hi x y hy
theorem cover_Vsc (y : (Shape.Idx S1x8x64)) : ∃ p ∈ listVsc (F := F) vs, y ∈ p.1.set := View.cover_of_tiledL (s := S1x8x64) (listVsc (F := F) vs) S1x1x64.size (by sl_kernel_rfl) y
theorem read_Vsc {sp : Space} {κ' : Kind} (v : View sig κ' sp S1x8x64 .f32) (f : v.ty.Contents (Elt F)) :
    v.read (Elt F) (v.writes (Elt F) f (listVsc vs)) = View.canon (listVsc vs) :=
  View.read_writes_eq_canon v f _ (cover_Vsc vs)
theorem canon_Vsc (i : ℕ) (hi : i < 8) (x : Shape.Idx S1x1x64) (y : Shape.Idx S1x8x64) (hy : ∀ b, (y b : ℕ) = (![0, i, 0] : Fin _ → ℕ) b + x b) :
    View.canon (listVsc vs) y = vscPay (vs i hi) x :=
  canon_rev (S := S1x8x64) (e := .f32) 8 (fun i => ![0, i, 0]) S1x1x64.size inb_vsc (fun i hi => vscPay (vs i hi)) ⟨1, by decide⟩
    (fun i j hij => by (try simp [S1x1x64]); (try omega)) i hi x y hy
theorem cover_Kn (y : (Shape.Idx S8x640x64)) : ∃ p ∈ listKn (F := F) ks, y ∈ p.1.set := View.cover_of_tiledL (s := S8x640x64) (listKn (F := F) ks) S1x640x64.size (by sl_kernel_rfl) y
theorem read_Kn {sp : Space} {κ' : Kind} (v : View sig κ' sp S8x640x64 .fp8e4m3) (f : v.ty.Contents (Elt F)) :
    v.read (Elt F) (v.writes (Elt F) f (listKn ks)) = View.canon (listKn ks) :=
  View.read_writes_eq_canon v f _ (cover_Kn ks)
theorem canon_Kn (i : ℕ) (hi : i < 8) (x : Shape.Idx S1x640x64) (y : Shape.Idx S8x640x64) (hy : ∀ b, (y b : ℕ) = (![i, 0, 0] : Fin _ → ℕ) b + x b) :
    View.canon (listKn ks) y = knPay (ks i hi) x :=
  canon_rev (S := S8x640x64) (e := .fp8e4m3) 8 (fun i => ![i, 0, 0]) S1x640x64.size inb_kn (fun i hi => knPay (ks i hi)) ⟨0, by decide⟩
    (fun i j hij => by (try simp [S1x640x64]); (try omega)) i hi x y hy
theorem cover_Kcol (y : (Shape.Idx S8x640x128)) : ∃ p ∈ listKcol (F := F) ks, y ∈ p.1.set := View.cover_of_tiledL (s := S8x640x128) (listKcol (F := F) ks) S1x640x128.size (by sl_kernel_rfl) y
theorem read_Kcol {sp : Space} {κ' : Kind} (v : View sig κ' sp S8x640x128 .f32) (f : v.ty.Contents (Elt F)) :
    v.read (Elt F) (v.writes (Elt F) f (listKcol ks)) = View.canon (listKcol ks) :=
  View.read_writes_eq_canon v f _ (cover_Kcol ks)
theorem canon_Kcol (i : ℕ) (hi : i < 8) (x : Shape.Idx S1x640x128) (y : Shape.Idx S8x640x128) (hy : ∀ b, (y b : ℕ) = (![i, 0, 0] : Fin _ → ℕ) b + x b) :
    View.canon (listKcol ks) y = kcolPay (ks i hi) x :=
  canon_rev (S := S8x640x128) (e := .f32) 8 (fun i => ![i, 0, 0]) S1x640x128.size inb_kcol (fun i hi => kcolPay (ks i hi)) ⟨0, by decide⟩
    (fun i j hij => by (try simp [S1x640x128]); (try omega)) i hi x y hy
theorem cover_Vcol (y : (Shape.Idx S512x128)) : ∃ p ∈ listVcol (F := F) vs, y ∈ p.1.set := View.cover_of_tiledL (s := S512x128) (listVcol (F := F) vs) S64x128.size (by sl_kernel_rfl) y
theorem read_Vcol {sp : Space} {κ' : Kind} (v : View sig κ' sp S512x128 .f32) (f : v.ty.Contents (Elt F)) :
    v.read (Elt F) (v.writes (Elt F) f (listVcol vs)) = View.canon (listVcol vs) :=
  View.read_writes_eq_canon v f _ (cover_Vcol vs)
theorem canon_Vcol (i : ℕ) (hi : i < 8) (x : Shape.Idx S64x128) (y : Shape.Idx S512x128) (hy : ∀ b, (y b : ℕ) = (![64 * i, 0] : Fin _ → ℕ) b + x b) :
    View.canon (listVcol vs) y = vcolPay (vs i hi) x :=
  canon_rev (S := S512x128) (e := .f32) 8 (fun i => ![64 * i, 0]) S64x128.size inb_vcol (fun i hi => vcolPay (vs i hi)) ⟨0, by decide⟩
    (fun i j hij => by (try simp [S64x128]); (try omega)) i hi x y hy

/-- The prepared keys and values of one batch. -/
def prep : Prep F where
  kn g hg := knPay (ks g hg)
  kcol g hg := kcolPay (ks g hg)
  vcol g hg := vcolPay (vs g hg)
  vt g hg := vtPay (vs g hg)

theorem ld_Kn (g : ℕ) (hg : g < 8) : View.ld (View.canon (listKn ks)) (Rect.unit (s := S8x640x64) ![g, 0, 0] S1x640x64.size (inb_kn g hg)) = knPay (ks g hg) :=
  funext fun x => canon_Kn ks g hg x _ fun b => Rect.idx_unit_val _ _ _ x b
theorem ld_Kcol (g : ℕ) (hg : g < 8) : View.ld (View.canon (listKcol ks)) (Rect.unit (s := S8x640x128) ![g, 0, 0] S1x640x128.size (inb_kcol g hg)) = kcolPay (ks g hg) :=
  funext fun x => canon_Kcol ks g hg x _ fun b => Rect.idx_unit_val _ _ _ x b
theorem ld_Vcol (g : ℕ) (hg : g < 8) : View.ld (View.canon (listVcol vs)) (Rect.unit (s := S512x128) ![64 * g, 0] S64x128.size (inb_vcol g hg)) = vcolPay (vs g hg) :=
  funext fun x => canon_Vcol vs g hg x _ fun b => Rect.idx_unit_val _ _ _ x b
theorem ld_Vt (g : ℕ) (hg : g < 8) : View.ld (View.canon (listVt vs)) (Rect.unit (s := S1x512x640) ![0, 64 * g, 0] S1x64x640.size (inb_vt g hg)) = vtPay (vs g hg) :=
  funext fun x => canon_Vt vs g hg x _ fun b => Rect.idx_unit_val _ _ _ x b
theorem ld_U (h : ℕ) (hh : h < 40) : View.ld (View.canon (listU xs P)) (Rect.unit (s := S2560x128) ![64 * h, 0] S64x128.size (inb_u h hh)) = uPay xs P h hh :=
  funext fun x => canon_U xs P h hh x _ fun b => Rect.idx_unit_val _ _ _ x b

theorem ldU_eq (arg16 : Memref sig .tc .vmem S2560x128 .f32) : ldU xs P arg16 = uPay xs P := by
  funext h hh
  exact (View.readCov_eq_canon_ld _ _ _ (cover_U xs P)).trans (ld_U xs P h hh)

theorem covP_eq (arg11 : Memref sig .tc .vmem S1x512x640 .fp8e4m3) (arg13 : Memref sig .tc .vmem S8x640x64 .fp8e4m3)
    (arg14 : Memref sig .tc .vmem S8x640x128 .f32) (arg15 : Memref sig .tc .vmem S512x128 .f32) :
    covP ks vs arg11 arg13 arg14 arg15 = prep ks vs := by
  unfold covP prep
  congr 1 <;> funext g hg
  · exact (View.readCov_eq_canon_ld _ _ _ (cover_Kn ks)).trans (ld_Kn ks g hg)
  · exact (View.readCov_eq_canon_ld _ _ _ (cover_Kcol ks)).trans (ld_Kcol ks g hg)
  · exact (View.readCov_eq_canon_ld _ _ _ (cover_Vcol vs)).trans (ld_Vcol vs g hg)
  · exact (View.readCov_eq_canon_ld _ _ _ (cover_Vt vs)).trans (ld_Vt vs g hg)

theorem ldP_eq (arg11 : Memref sig .tc .vmem S1x512x640 .fp8e4m3) (harg11 : arg11.IsWhole) (arg13 : Memref sig .tc .vmem S8x640x64 .fp8e4m3) (harg13 : arg13.IsWhole)
    (arg14 : Memref sig .tc .vmem S8x640x128 .f32) (harg14 : arg14.IsWhole) (arg15 : Memref sig .tc .vmem S512x128 .f32) (harg15 : arg15.IsWhole) :
    ldP arg11 harg11 arg13 harg13 arg14 harg14 arg15 harg15 (View.canon (listVt vs)) (View.canon (listKn ks)) (View.canon (listKcol ks)) (View.canon (listVcol vs))
      = prep ks vs := by
  unfold ldP prep
  congr 1 <;> funext g hg
  · exact (View.readAt_eq_ld _ _ _).trans (by rw [harg13.read_unread]; exact ld_Kn ks g hg)
  · exact (View.readAt_eq_ld _ _ _).trans (by rw [harg14.read_unread]; exact ld_Kcol ks g hg)
  · exact (View.readAt_eq_ld _ _ _).trans (by rw [harg15.read_unread]; exact ld_Vcol vs g hg)
  · exact (View.readAt_eq_ld _ _ _).trans (by rw [harg11.read_unread]; exact ld_Vt vs g hg)

end Lists

/-! ## The contents of the windows and of the carried scratch -/

/-- The output's codes at a point, from the blocks it finds; -/
def outC (X : Vec F S1x128x2560 .bf16) (K V : Vec F S1x640x512 .bf16) : Vec F S1x128x2560 .fp8e4m3 :=
  View.canon (listOut (slX X) (prep (slK K) (slK V)) (uPay (slX X) (prep (slK K) (slK V))))
/-- the output's scales, -/
def oscV (X : Vec F S1x128x2560 .bf16) (K V : Vec F S1x640x512 .bf16) : FVec F (Sh 1 128) .f32 :=
  scaleOf (oExp (slX X) (prep (slK K) (slK V)))
def qtC (X : Vec F S1x128x2560 .bf16) : Vec F S1x2560x128 .fp8e4m3 := View.canon (listQt (slX X))
def qscC (X : Vec F S1x128x2560 .bf16) : Vec F S1x40x128 .f32 := View.canon (listQsc (slX X))
def ktC (K : Vec F S1x640x512 .bf16) : Vec F S1x512x640 .fp8e4m3 := View.canon (listKt (slK K))
def kscC (K : Vec F S1x640x512 .bf16) : Vec F S1x8x640 .f32 := View.canon (listKsc (slK K))
def vtC (V : Vec F S1x640x512 .bf16) : Vec F S1x512x640 .fp8e4m3 := View.canon (listVt (slK V))
def vscC (V : Vec F S1x640x512 .bf16) : Vec F S1x8x64 .f32 := View.canon (listVsc (slK V))
def knC (K : Vec F S1x640x512 .bf16) : Vec F S8x640x64 .fp8e4m3 := View.canon (listKn (slK K))
def kcolC (K : Vec F S1x640x512 .bf16) : Vec F S8x640x128 .f32 := View.canon (listKcol (slK K))
def vcolC (V : Vec F S1x640x512 .bf16) : Vec F S512x128 .f32 := View.canon (listVcol (slK V))

/-- The plane of output scales after point `t`: 128 entries of the batch's row set, the others as they were. -/
def OscRel (t : ℕ) (v : FVec F (Sh 1 128) .f32) (Y X : Vec F S3x640 .f32) : Prop :=
  ∀ (r : Fin 3) (s : Fin 640), X (ix2 r s) = if r.val = t / 5 ∧ s.val / 128 = t % 5 then v (ix2 (0 : Fin 1) (⟨s.val % 128, Nat.mod_lt _ (by decide)⟩ : Fin 128)) else Y (ix2 r s)

theorem oscRel_of (t : ℕ) (v : FVec F (Sh 1 128) .f32) (Y : Vec F S3x640 .f32) (arg6 : Memref sig .tc .vmem S3x640 .f32) (harg6 : arg6.IsWhole)
    (off : Fin 2 → ℕ) (inb) (hoff : off = ![t / 5, 128 * (t % 5)]) :
    OscRel t v Y (arg6.view.read (Elt F) (arg6.view.writes (Elt F) (harg6.unread Y) [⟨Rect.unit (s := S3x640) off S1x128.size inb, v⟩])) := by
  intro r s
  by_cases h : r.val = t / 5 ∧ s.val / 128 = t % 5
  · rw [if_pos h]
    refine View.read_writes_cons_unit_of_mem (Val := Elt F) arg6.view _ inb v [] (ix2 r s) (ix2 (0 : Fin 1) (⟨s.val % 128, Nat.mod_lt _ (by decide)⟩ : Fin 128)) hoff ?_
    intro a
    fin_cases a
    · show r.val = t / 5 + 0; omega
    · show s.val = 128 * (t % 5) + s.val % 128; omega
  · rw [if_neg h]
    have hb : ((arg6.view.read (Elt F) (arg6.view.writes (Elt F) (harg6.unread Y) [])) (ix2 r s)) = Y (ix2 r s) := by
      show (arg6.view.read (Elt F) (harg6.unread Y)) (ix2 r s) = _
      rw [harg6.read_unread]
    by_cases h1 : r.val = t / 5
    · refine (View.read_writes_cons_unit_of_not_mem (Val := Elt F) arg6.view _ inb v [] (ix2 r s) hoff (1 : Fin 2) ?_).trans hb
      show s.val < 128 * (t % 5) ∨ 128 * (t % 5) + 128 ≤ s.val
      have : s.val / 128 ≠ t % 5 := fun e => h ⟨h1, e⟩
      omega
    · refine (View.read_writes_cons_unit_of_not_mem (Val := Elt F) arg6.view _ inb v [] (ix2 r s) hoff (0 : Fin 2) ?_).trans hb
      show r.val < t / 5 ∨ t / 5 + 1 ≤ r.val
      omega

end Cert.KernelIdeal.Hand

end

end
-- ==== Proof.KiHeads.lean ====
/- Each head of the body read over the reals, then the output's scale and codes. -/
module

public import proofs.«01_k».proof.Proof.KiAttn
public import proofs.«01_k».proof.Proof.KiContents

@[expose] public section

set_option maxRecDepth 16384

noncomputable section

namespace Cert.KernelIdeal.Hand

open Cert.KernelIdeal Cert.KernelIdeal.Gen Cert.Model
open Idealize.ShloMosaic Idealize.ShloMosaic.TcCoe

/-! ## Two heads side by side -/

theorem cat1_apply {r : ℕ} {α : Type} (X Y : (Sh r 128).Idx → α) (h : Shape.Concatenates [Sh r 128, Sh r 128] (Sh r 256) 1)
    (i : Fin r) (c : Fin 128) (e : ℕ) (he : e < 2) (z : α) (h0 : e = 0 → X (ix2 i c) = z) (h1 : e = 1 → Y (ix2 i c) = z) :
    concatenate (Sh r 256) 1 [⟨Sh r 128, X⟩, ⟨Sh r 128, Y⟩] h (ix2 i (⟨128 * e + c.val, by omega⟩ : Fin 256)) = z := by
  have hc := c.isLt
  obtain rfl | rfl : e = 0 ∨ e = 1 := by omega
  · refine (concatenate_pair_apply_left (t := Sh r 256) (1 : Fin 2) X Y h _ rfl (ix2 i c) fun b => ?_).trans (h0 rfl)
    match b with
    | ⟨0, _⟩ => rfl
    | ⟨1, _⟩ => show c.val = 128 * 0 + c.val; omega
  · refine (concatenate_pair_apply_right (t := Sh r 256) (1 : Fin 2) X Y h _ rfl rfl (ix2 i c) (fun b hb => ?_) ?_).trans (h1 rfl)
    · match b with
      | ⟨0, _⟩ => rfl
      | ⟨1, _⟩ => exact absurd rfl hb
    · show c.val + 128 = 128 * 1 + c.val; omega

theorem cat0_apply {α : Type} (X Y : (Sh 64 128).Idx → α) (h : Shape.Concatenates [Sh 64 128, Sh 64 128] (Sh 128 128) 0)
    (d : Fin 64) (c : Fin 128) (e : ℕ) (he : e < 2) (z : α) (h0 : e = 0 → X (ix2 d c) = z) (h1 : e = 1 → Y (ix2 d c) = z) :
    concatenate (Sh 128 128) 0 [⟨Sh 64 128, X⟩, ⟨Sh 64 128, Y⟩] h (ix2 (⟨64 * e + d.val, by omega⟩ : Fin 128) c) = z := by
  have hd := d.isLt
  obtain rfl | rfl : e = 0 ∨ e = 1 := by omega
  · refine (concatenate_pair_apply_left (t := Sh 128 128) (0 : Fin 2) X Y h _ rfl (ix2 d c) fun b => ?_).trans (h0 rfl)
    match b with
    | ⟨0, _⟩ => show d.val = 64 * 0 + d.val; omega
    | ⟨1, _⟩ => rfl
  · refine (concatenate_pair_apply_right (t := Sh 128 128) (0 : Fin 2) X Y h _ rfl rfl (ix2 d c) (fun b hb => ?_) ?_).trans (h1 rfl)
    · match b with
      | ⟨0, _⟩ => exact absurd rfl hb
      | ⟨1, _⟩ => rfl
    · show d.val + 64 = 64 * 1 + d.val; omega

section Heads

variable (x k v : ℕ → ℕ → ℕ → ℝ) (b s0 : ℕ)
variable (hbx : ∀ b s n, |x b s n| ≤ big) (hbk : ∀ b s n, |k b s n| ≤ big) (hbv : ∀ b s n, |v b s n| ≤ big)
variable (xs : (i : ℕ) → i < 20 → FVec Ideal (Sb 128 128) .bf16) (kk vv : (i : ℕ) → i < 8 → FVec Ideal (Sb 640 64) .bf16)
variable (hx : ∀ i hi r d, xs i hi (ix3 0 r d) = ((x b (s0 + r.val) (128 * i + d.val) : ℝ) : EReal))
variable (hk : ∀ i hi j d, kk i hi (ix3 0 j d) = ((k b j.val (64 * i + d.val) : ℝ) : EReal))
variable (hv : ∀ i hi j d, vv i hi (ix3 0 j d) = ((v b j.val (64 * i + d.val) : ℝ) : EReal))

/-- The key codes and scales of group `g`, the value codes and scales. -/
abbrev kcM (g : ℕ) : Fin 640 → Fin 64 → ℝ := fun j => qcd (qf k b j.val g)
abbrev ksM (g : ℕ) : Fin 640 → ℝ := fun j => qsc (qf k b j.val g)
abbrev vcM (g : ℕ) : Fin 640 → Fin 64 → ℝ := fun j d => qcd (vf v b g d.val) j
abbrev vsM (g : ℕ) : Fin 64 → ℝ := fun d => qsc (vf v b g d.val)
/-- The weights of head `h` against group `g`, for the block's position `c`. -/
abbrev wtM (h g : ℕ) (c : Fin 128) : Fin 640 → ℝ :=
  wt (qcd (qf x b (s0 + c.val) h)) (qsc (qf x b (s0 + c.val) h)) (kcM k b g) (ksM k b g)
/-- The weighted sums of values. -/
abbrev wvM (h g : ℕ) (c : Fin 128) : Fin 64 → ℝ :=
  wv (qcd (qf x b (s0 + c.val) h)) (qsc (qf x b (s0 + c.val) h)) (kcM k b g) (ksM k b g) (vcM v b g)

section
include hbx hbk hx hk

theorem p1_apply (g : ℕ) (hg : g < 8) (c : Fin 128) (j : Fin 640) :
    p1 xs (prep kk vv) g hg (ix2 j c) = ((wtM x k b s0 (5 * g + 4) g c j * 256 : ℝ) : EReal) := by
  unfold p1
  refine pOf_apply af_128 c _ _ _ _ _ _ (qsc_pos _) (fun j => sOf_apply c _ _ _ _ _ _ (fun j i => ?_) (fun i => ?_) (fun j => ?_) j) ?_ j
  · rw [drop_apply]; exact knPay_apply k b hbk kk hk g hg j i
  · exact qc_apply x b s0 hbx xs hx _ _ i c
  · rw [drop_apply]; exact kcolPay_apply k b hbk kk hk g hg j c
  · exact qs_apply x b s0 hbx xs hx _ _ c

theorem p2_apply (g a e : ℕ) (hg : g < 8) (ha : a < 2) (he : e < 2) (c : Fin 128) (j : Fin 640) :
    p2 xs (prep kk vv) g a hg ha (ix2 j (⟨128 * e + c.val, by omega⟩ : Fin 256)) = ((wtM x k b s0 (5 * g + 2 * a + e) g c j * 256 : ℝ) : EReal) := by
  unfold p2
  refine pOf_apply af_256 _ _ _ _ _ _ _ (qsc_pos _) (fun j => sOf_apply _ _ _ _ _ _ _ (fun j i => ?_) (fun i => ?_) (fun j => ?_) j) ?_ j
  · rw [drop_apply]; exact knPay_apply k b hbk kk hk g hg j i
  · refine cat1_apply _ _ _ i c e he _ (fun h0 => ?_) (fun h1 => ?_)
    · subst h0; exact qc_apply x b s0 hbx xs hx _ _ i c
    · subst h1; exact qc_apply x b s0 hbx xs hx _ _ i c
  · refine cat1_apply _ _ _ j c e he _ (fun h0 => ?_) (fun h1 => ?_)
    · rw [drop_apply]; exact kcolPay_apply k b hbk kk hk g hg j c
    · rw [drop_apply]; exact kcolPay_apply k b hbk kk hk g hg j c
  · refine cat1_apply _ _ _ 0 c e he _ (fun h0 => ?_) (fun h1 => ?_)
    · subst h0; exact qs_apply x b s0 hbx xs hx _ _ c
    · subst h1; exact qs_apply x b s0 hbx xs hx _ _ c

theorem rlH_apply (h : ℕ) (hh : h < 40) (c : Fin 128) :
    rlH xs (prep kk vv) h hh (ix2 0 c) = ((1 / ∑ j, wtM x k b s0 h (h / 5) c j * 256 : ℝ) : EReal) := by
  unfold rlH
  by_cases h4 : h % 5 = 4
  · rw [if_pos h4]
    have e : 5 * (h / 5) + 4 = h := by omega
    refine rlOf_apply af_128 c _ _ _ _ _ fun j => ?_
    rw [p1_apply x k b s0 hbx hbk xs kk vv hx hk, e]
  · rw [if_neg h4]
    have e : 5 * (h / 5) + 2 * (h % 5 / 2 % 2) + h % 5 % 2 = h := by omega
    rw [extractStridedSlice_apply _ _ _ (ix2 0 c) (ix2 0 (⟨128 * (h % 5 % 2) + c.val, by omega⟩ : Fin 256)) (fun a => by
      match a with
      | ⟨0, _⟩ => rfl
      | ⟨1, _⟩ => rfl)]
    refine rlOf_apply af_256 _ _ _ _ _ _ fun j => ?_
    rw [p2_apply x k b s0 hbx hbk xs kk vv hx hk _ _ _ _ _ (by omega), e]

include hbv hv
theorem uOf_apply (h : ℕ) (hh : h < 40) (d : Fin 64) (c : Fin 128) :
    uOf xs (prep kk vv) h hh (ix2 d c) = ((wvM x k v b s0 h (h / 5) c d * vsM v b (h / 5) d : ℝ) : EReal) := by
  have hvt : ∀ (d : Fin 64) (j : Fin 640), shapeCast (Sh 64 640) ((prep kk vv).vt (h / 5) (by omega)) shapeCasts_S1x64x640_S64x640 (ix2 d j)
      = ((vcM v b (h / 5) j d : ℝ) : EReal) := fun d j => by
    rw [drop_apply]; exact vtPay_apply v b hbv vv hv _ _ d j
  unfold uOf
  refine (mulf_apply _ _ _).trans ?_
  have e2 : (prep kk vv).vcol (h / 5) (by omega) (ix2 d c) = ((vsM v b (h / 5) d : ℝ) : EReal) := vcolPay_apply v b hbv vv hv _ _ d c
  rw [e2, EReal.coe_mul]
  refine congrArg (· * ((vsM v b (h / 5) d : ℝ) : EReal)) ?_
  by_cases h4 : h % 5 = 4
  · rw [if_pos h4]
    have e : 5 * (h / 5) + 4 = h := by omega
    refine oOf_apply c _ _ _ _ _ _ _ hvt (fun j => ?_) d
    rw [p1_apply x k b s0 hbx hbk xs kk vv hx hk, e]
  · rw [if_neg h4]
    have e : 5 * (h / 5) + 2 * (h % 5 / 2 % 2) + h % 5 % 2 = h := by omega
    rw [extractStridedSlice_apply _ _ _ (ix2 d c) (ix2 d (⟨128 * (h % 5 % 2) + c.val, by omega⟩ : Fin 256)) (fun a => by
      match a with
      | ⟨0, _⟩ => exact (Nat.zero_add _).symm
      | ⟨1, _⟩ => rfl)]
    refine oOf_apply _ _ _ _ _ _ _ _ hvt (fun j => ?_) d
    rw [p2_apply x k b s0 hbx hbk xs kk vv hx hk _ _ _ _ _ (by omega), e]

end

theorem uM_mul (h : ℕ) (c : Fin 128) (d : Fin 64) :
    wvM x k v b s0 h (h / 5) c d * vsM v b (h / 5) d * (1 / ∑ j, wtM x k b s0 h (h / 5) c j * 256) = oH x k v b (s0 + c.val) h d :=
  oh_eq _ _ _ _ _ _ d

theorem rlM_pos (h g : ℕ) (c : Fin 128) : 0 < 1 / ∑ j, wtM x k b s0 h g c j * 256 := by
  rw [← Finset.sum_mul]
  exact one_div_pos.2 (mul_pos (ws_pos _ _ _ _) (by norm_num))

section
include hbx hbk hx hk hbv hv

theorem amaxH_apply (h : ℕ) (hh : h < 40) (c : Fin 128) :
    amaxH xs (prep kk vv) h hh (ix2 0 c) = ((amax (oH x k v b (s0 + c.val) h) : ℝ) : EReal) := by
  unfold amaxH
  refine (mulf_apply _ _ _).trans ?_
  rw [rlH_apply x k b s0 hbx hbk xs kk vv hx hk, row_apply]
  have e4 : multiReduction .maximumf [0] (Sv 128) (absf (uOf xs (prep kk vv) h hh)) 0xFF800000#32 qf_64_128.red (.inl rfl) rfl (ix1 c)
      = ((top fun d => |wvM x k v b s0 h (h / 5) c d * vsM v b (h / 5) d| : ℝ) : EReal) := by
    refine (multiReduction_maximumf_eq_fold _ _ _ _ _ _).trans ?_
    rw [qf_64_128.red.fold_fiber_r2_a0]
    show (Finset.univ : Finset (Fin 64)).fold max (Ideal.ofBits .f32 0xFF800000#32) _ = _
    rw [ofBits_ninf]
    refine fold_top _ _ fun d => ?_
    rw [← coe_abs, ← uOf_apply x k v b s0 hbx hbk hbv xs kk vv hx hk hv h hh d c]
    rfl
  rw [e4]
  show (_ : EReal) * _ = _
  rw [← EReal.coe_mul, ← top_mul _ (rlM_pos x k b s0 h (h / 5) c).le]
  refine congrArg _ (congrArg top (funext fun d => ?_))
  show _ = |oH x k v b (s0 + c.val) h d|
  rw [← uM_mul x k v b s0 h c d]
  have e := abs_mul (wvM x k v b s0 h (h / 5) c d * vsM v b (h / 5) d) (1 / ∑ j, wtM x k b s0 h (h / 5) c j * 256)
  rw [abs_of_pos (rlM_pos x k b s0 h (h / 5) c)] at e
  exact e.symm

theorem amaxTo_apply (h : ℕ) (hh : h < 40) (c : Fin 128) :
    ∃ r : ℝ, amaxTo xs (prep kk vv) h hh (ix2 0 c) = (r : EReal) ∧ (∀ h' ≤ h, ∀ d, |oH x k v b (s0 + c.val) h' d| ≤ r)
      ∧ ∃ h' ≤ h, ∃ d, |oH x k v b (s0 + c.val) h' d| = r := by
  have one : ∀ h hh, ∃ r : ℝ, amaxH xs (prep kk vv) h hh (ix2 0 c) = (r : EReal) ∧ (∀ d, |oH x k v b (s0 + c.val) h d| ≤ r)
      ∧ ∃ d, |oH x k v b (s0 + c.val) h d| = r := fun h hh => by
    obtain ⟨d, hd⟩ := exists_top fun d => |oH x k v b (s0 + c.val) h d|
    exact ⟨_, amaxH_apply x k v b s0 hbx hbk hbv xs kk vv hx hk hv h hh c, le_top fun d => |oH x k v b (s0 + c.val) h d|, d, hd.symm⟩
  induction h with
  | zero =>
    obtain ⟨r, h1, h2, d, h3⟩ := one 0 hh
    refine ⟨r, h1, fun h' hl d => ?_, 0, le_rfl, d, h3⟩
    obtain rfl := Nat.le_zero.1 hl
    exact h2 d
  | succ h ih =>
    obtain ⟨r, h1, h2, d, h3⟩ := one (h + 1) hh
    obtain ⟨r', h1', h2', m, hm, d', h3'⟩ := ih (by omega)
    refine ⟨max r' r, ?_, fun h' hl d => ?_, ?_⟩
    · rw [coe_max, ← h1, ← h1']; rfl
    · rcases Nat.lt_or_ge h h' with hlt | hge
      · obtain rfl : h' = h + 1 := by omega
        exact (h2 d).trans (le_max_right _ _)
      · exact (h2' h' hge d).trans (le_max_left _ _)
    · rcases le_total r r' with hr | hr
      · exact ⟨m, by omega, d', by rw [h3', max_eq_left hr]⟩
      · exact ⟨h + 1, le_rfl, d, by rw [h3, max_eq_right hr]⟩

theorem amaxAll_apply (c : Fin 128) : amaxTo xs (prep kk vv) 39 (by omega) (ix2 0 c) = ((amax (oF x k v b (s0 + c.val)) : ℝ) : EReal) := by
  obtain ⟨r, h1, h2, m, hm, d, h3⟩ := amaxTo_apply x k v b s0 hbx hbk hbv xs kk vv hx hk hv 39 (by omega) c
  rw [h1]
  refine congrArg _ (top_eq (fun n => ?_) ?_).symm
  · exact h2 (n.val / 64) (by omega) _
  · refine ⟨⟨64 * m + d.val, by omega⟩, ?_⟩
    have e1 : (64 * m + d.val) / 64 = m := by omega
    have e2 : (64 * m + d.val) % 64 = d.val := by omega
    show |oH x k v b (s0 + c.val) ((64 * m + d.val) / 64) ⟨(64 * m + d.val) % 64, _⟩| = r
    rw [← h3]
    simp only [e1, e2]

theorem oExp_apply (c : Fin 128) : oExp xs (prep kk vv) (ix2 0 c) = BitVec.ofInt 32 (qe (oF x k v b (s0 + c.val))) := by
  unfold oExp
  refine expOf_apply qf_64_128 _ c _ (aq_nonneg (oF x k v b (s0 + c.val))) (aq_lt (oF_le x k v hbv b (s0 + c.val))) ?_
  refine (mulf_apply _ _ _).trans ?_
  rw [amaxAll_apply x k v b s0 hbx hbk hbv xs kk vv hx hk hv c, EReal.coe_mul, ← ofBits_c448]
  rfl

theorem oScale_apply (c : Fin 128) : scaleOf (F := Ideal) (oExp xs (prep kk vv)) (ix2 0 c) = ((qsc (oF x k v b (s0 + c.val)) : ℝ) : EReal) :=
  scaleOf_apply _ c _ (qe_ge _) (qe_le (oF_le x k v hbv b (s0 + c.val))) (oExp_apply x k v b s0 hbx hbk hbv xs kk vv hx hk hv c)

theorem yOf_apply (h : ℕ) (hh : h < 40) (d : Fin 64) (c : Fin 128) :
    yOf xs (prep kk vv) (uPay xs (prep kk vv) h hh) h hh (ix2 d c) = ((code (oH x k v b (s0 + c.val) h d) (qe (oF x k v b (s0 + c.val))) : ℝ) : EReal) := by
  have e : yOf xs (prep kk vv) (uPay xs (prep kk vv) h hh) h hh (ix2 d c)
      = min (Ideal.ofBits .f32 0x43E00000#32) (max (Ideal.ofBits .f32 0xC3E00000#32)
        (uPay xs (prep kk vv) h hh (ix2 d c) * broadcastTo (Sh 64 128) (mulf (rlH xs (prep kk vv) h hh) (invOf (oExp xs (prep kk vv)))) qf_64_128.bc (ix2 d c))) := rfl
  rw [e, bcRow_apply, mulf_apply, rlH_apply x k b s0 hbx hbk xs kk vv hx hk,
    invOf_apply _ c _ (qe_ge _) (qe_le (oF_le x k v hbv b (s0 + c.val))) (oExp_apply x k v b s0 hbx hbk hbv xs kk vv hx hk hv c)]
  unfold uPay
  rw [self_apply, uOf_apply x k v b s0 hbx hbk hbv xs kk vv hx hk hv, ofBits_448, ofBits_n448]
  show min _ (max _ (_ * (_ * _))) = _
  rw [← EReal.coe_mul, ← EReal.coe_mul, ← coe_max, ← coe_min, ← mul_assoc, uM_mul]
  rfl

theorem outPay_apply (i : ℕ) (hi : i < 20) (c : Fin 128) (D : Fin 128) (n : Fin 2560) (hn : n.val = 128 * i + D.val) :
    outPay xs (prep kk vv) (uPay xs (prep kk vv)) i hi (ix3 0 c D) = ((qcd (oF x k v b (s0 + c.val)) n : ℝ) : EReal) := by
  have hD := D.isLt
  refine (lift_apply _ _ c D).trans ?_
  show transpose (Sh 128 128) [1, 0] (concatenate (Sh 128 128) 0 [⟨Sh 64 128, yOf xs (prep kk vv) (uPay xs (prep kk vv) (2 * i) (by omega)) (2 * i) (by omega)⟩,
      ⟨Sh 64 128, yOf xs (prep kk vv) (uPay xs (prep kk vv) (2 * i + 1) (by omega)) (2 * i + 1) (by omega)⟩] concatenates_S64x128_S64x128_S128x128_d0)
    transposes_S128x128_p1_0_S128x128 (ix2 c D) = _
  rw [tr_apply]
  have eD : D = (⟨64 * (D.val / 64) + D.val % 64, by omega⟩ : Fin 128) := Fin.ext (by show D.val = 64 * (D.val / 64) + D.val % 64; omega)
  have key : ∀ (h : ℕ) (hh : h < 40), h = n.val / 64 →
      yOf xs (prep kk vv) (uPay xs (prep kk vv) h hh) h hh (ix2 (⟨D.val % 64, by omega⟩ : Fin 64) c) = ((qcd (oF x k v b (s0 + c.val)) n : ℝ) : EReal) := by
    intro h hh e
    rw [yOf_apply x k v b s0 hbx hbk hbv xs kk vv hx hk hv]
    unfold qcd oF
    have e2 : D.val % 64 = n.val % 64 := by omega
    simp only [e, e2]
  rw [eD]
  refine cat0_apply _ _ _ (⟨D.val % 64, by omega⟩ : Fin 64) c (D.val / 64) (by omega) _ (fun h0 => key _ _ (by omega)) (fun h1 => key _ _ (by omega))

end

end Heads

end Cert.KernelIdeal.Hand

end

end
-- ==== Proof.KiBlocks.lean ====
/- What the body leaves in each window, read over the reals at every index of the block. -/
module

public import proofs.«01_k».proof.Proof.KiHeads

@[expose] public section

set_option maxRecDepth 16384

noncomputable section

namespace Cert.KernelIdeal.Hand

open Cert.KernelIdeal Cert.KernelIdeal.Gen Cert.Model
open Idealize.ShloMosaic Idealize.ShloMosaic.TcCoe

section Blocks

variable (x k v : ℕ → ℕ → ℕ → ℝ) (b s0 : ℕ)
variable (hbx : ∀ b s n, |x b s n| ≤ big) (hbk : ∀ b s n, |k b s n| ≤ big) (hbv : ∀ b s n, |v b s n| ≤ big)
variable (X : Vec Ideal S1x128x2560 .bf16) (K V : Vec Ideal S1x640x512 .bf16)
variable (hX : ∀ y : S1x128x2560.Idx, X y = ((x b (s0 + (y 1).val) (y 2).val : ℝ) : EReal))
variable (hK : ∀ y : S1x640x512.Idx, K y = ((k b (y 1).val (y 2).val : ℝ) : EReal))
variable (hV : ∀ y : S1x640x512.Idx, V y = ((v b (y 1).val (y 2).val : ℝ) : EReal))

include hX in
theorem slX_apply (i : ℕ) (hi : i < 20) (r d : Fin 128) : slX X i hi (ix3 0 r d) = ((x b (s0 + r.val) (128 * i + d.val) : ℝ) : EReal) := by
  refine (hX _).trans ?_
  have e1 := Rect.idx_unit_val (s := S1x128x2560) ![0, 0, 128 * i] S1x128x128.size (inb_x i hi) (ix3 0 r d) 1
  have e2 := Rect.idx_unit_val (s := S1x128x2560) ![0, 0, 128 * i] S1x128x128.size (inb_x i hi) (ix3 0 r d) 2
  have e1' : (((Rect.unit (s := S1x128x2560) ![0, 0, 128 * i] S1x128x128.size (inb_x i hi)).toLoadRect.idx (ix3 0 r d)) 1).val = r.val := e1.trans (Nat.zero_add _)
  have e2' : (((Rect.unit (s := S1x128x2560) ![0, 0, 128 * i] S1x128x128.size (inb_x i hi)).toLoadRect.idx (ix3 0 r d)) 2).val = 128 * i + d.val := e2
  rw [e1', e2']

include hK in
theorem slK_apply (i : ℕ) (hi : i < 8) (r : Fin 640) (d : Fin 64) : slK K i hi (ix3 0 r d) = ((k b r.val (64 * i + d.val) : ℝ) : EReal) := by
  refine (hK _).trans ?_
  have e1 := Rect.idx_unit_val (s := S1x640x512) ![0, 0, 64 * i] S1x640x64.size (inb_k i hi) (ix3 0 r d) 1
  have e2 := Rect.idx_unit_val (s := S1x640x512) ![0, 0, 64 * i] S1x640x64.size (inb_k i hi) (ix3 0 r d) 2
  have e1' : (((Rect.unit (s := S1x640x512) ![0, 0, 64 * i] S1x640x64.size (inb_k i hi)).toLoadRect.idx (ix3 0 r d)) 1).val = r.val := e1.trans (Nat.zero_add _)
  have e2' : (((Rect.unit (s := S1x640x512) ![0, 0, 64 * i] S1x640x64.size (inb_k i hi)).toLoadRect.idx (ix3 0 r d)) 2).val = 64 * i + d.val := e2
  rw [e1', e2']

include hbx hX

theorem qtC_apply (y : S1x2560x128.Idx) : qtC X y
    = ((qcd (qf x b (s0 + (y 2).val) ((y 1).val / 64)) ⟨(y 1).val % 64, Nat.mod_lt _ (by decide)⟩ : ℝ) : EReal) := by
  have h0 : (y 0).val < 1 := (y 0).isLt
  have h1 : (y 1).val < 2560 := (y 1).isLt
  refine (canon_Qt (slX X) ((y 1).val / 64) (by omega) (ix3 0 ⟨(y 1).val % 64, by omega⟩ ⟨(y 2).val, (y 2).isLt⟩) y fun a => ?_).trans
    (qtPay_apply x b s0 hbx (slX X) (slX_apply x b s0 X hX) _ _ _ _)
  match a with
  | ⟨0, _⟩ => show (y 0).val = 0 + 0; omega
  | ⟨1, _⟩ => show (y 1).val = 64 * ((y 1).val / 64) + (y 1).val % 64; omega
  | ⟨2, _⟩ => show (y 2).val = 0 + (y 2).val; omega

theorem qscC_apply (y : S1x40x128.Idx) : qscC X y = ((qsc (qf x b (s0 + (y 2).val) (y 1).val) : ℝ) : EReal) := by
  have h0 : (y 0).val < 1 := (y 0).isLt
  have h1 : (y 1).val < 40 := (y 1).isLt
  refine (canon_Qsc (slX X) (y 1).val h1 (ix3 0 0 ⟨(y 2).val, (y 2).isLt⟩) y fun a => ?_).trans
    (qscPay_apply x b s0 hbx (slX X) (slX_apply x b s0 X hX) _ _ _)
  match a with
  | ⟨0, _⟩ => show (y 0).val = 0 + 0; omega
  | ⟨1, _⟩ => show (y 1).val = (y 1).val + 0; omega
  | ⟨2, _⟩ => show (y 2).val = 0 + (y 2).val; omega

omit hbx hX
include hbk hK

theorem ktC_apply (y : S1x512x640.Idx) : ktC K y
    = ((qcd (qf k b (y 2).val ((y 1).val / 64)) ⟨(y 1).val % 64, Nat.mod_lt _ (by decide)⟩ : ℝ) : EReal) := by
  have h0 : (y 0).val < 1 := (y 0).isLt
  have h1 : (y 1).val < 512 := (y 1).isLt
  refine (canon_Kt (slK K) ((y 1).val / 64) (by omega) (ix3 0 ⟨(y 1).val % 64, by omega⟩ ⟨(y 2).val, (y 2).isLt⟩) y fun a => ?_).trans
    (ktPay_apply k b hbk (slK K) (slK_apply k b K hK) _ _ _ _)
  match a with
  | ⟨0, _⟩ => show (y 0).val = 0 + 0; omega
  | ⟨1, _⟩ => show (y 1).val = 64 * ((y 1).val / 64) + (y 1).val % 64; omega
  | ⟨2, _⟩ => show (y 2).val = 0 + (y 2).val; omega

theorem kscC_apply (y : S1x8x640.Idx) : kscC K y = ((qsc (qf k b (y 2).val (y 1).val) : ℝ) : EReal) := by
  have h0 : (y 0).val < 1 := (y 0).isLt
  have h1 : (y 1).val < 8 := (y 1).isLt
  refine (canon_Ksc (slK K) (y 1).val h1 (ix3 0 0 ⟨(y 2).val, (y 2).isLt⟩) y fun a => ?_).trans
    (kscPay_apply k b hbk (slK K) (slK_apply k b K hK) _ _ _)
  match a with
  | ⟨0, _⟩ => show (y 0).val = 0 + 0; omega
  | ⟨1, _⟩ => show (y 1).val = (y 1).val + 0; omega
  | ⟨2, _⟩ => show (y 2).val = 0 + (y 2).val; omega

omit hbk hK
include hbv hV

theorem vtC_apply (y : S1x512x640.Idx) : vtC V y
    = ((qcd (vf v b ((y 1).val / 64) ((y 1).val % 64)) ⟨(y 2).val, (y 2).isLt⟩ : ℝ) : EReal) := by
  have h0 : (y 0).val < 1 := (y 0).isLt
  have h1 : (y 1).val < 512 := (y 1).isLt
  refine (canon_Vt (slK V) ((y 1).val / 64) (by omega) (ix3 0 ⟨(y 1).val % 64, by omega⟩ ⟨(y 2).val, (y 2).isLt⟩) y fun a => ?_).trans
    (vtPay_apply v b hbv (slK V) (slK_apply v b V hV) _ _ _ _)
  match a with
  | ⟨0, _⟩ => show (y 0).val = 0 + 0; omega
  | ⟨1, _⟩ => show (y 1).val = 64 * ((y 1).val / 64) + (y 1).val % 64; omega
  | ⟨2, _⟩ => show (y 2).val = 0 + (y 2).val; omega

theorem vscC_apply (y : S1x8x64.Idx) : vscC V y = ((qsc (vf v b (y 1).val (y 2).val) : ℝ) : EReal) := by
  have h0 : (y 0).val < 1 := (y 0).isLt
  have h1 : (y 1).val < 8 := (y 1).isLt
  refine (canon_Vsc (slK V) (y 1).val h1 (ix3 0 0 ⟨(y 2).val, (y 2).isLt⟩) y fun a => ?_).trans
    (vscPay_apply v b hbv (slK V) (slK_apply v b V hV) _ _ _)
  match a with
  | ⟨0, _⟩ => show (y 0).val = 0 + 0; omega
  | ⟨1, _⟩ => show (y 1).val = (y 1).val + 0; omega
  | ⟨2, _⟩ => show (y 2).val = 0 + (y 2).val; omega

include hbx hX hbk hK

theorem outC_apply (y : S1x128x2560.Idx) : outC X K V y
    = ((qcd (oF x k v b (s0 + (y 1).val)) ⟨(y 2).val, (y 2).isLt⟩ : ℝ) : EReal) := by
  have h0 : (y 0).val < 1 := (y 0).isLt
  have h2 : (y 2).val < 2560 := (y 2).isLt
  refine (canon_Out (slX X) (prep (slK K) (slK V)) (uPay (slX X) (prep (slK K) (slK V))) ((y 2).val / 128) (by omega)
      (ix3 0 ⟨(y 1).val, (y 1).isLt⟩ ⟨(y 2).val % 128, by omega⟩) y fun a => ?_).trans
    (outPay_apply x k v b s0 hbx hbk hbv (slX X) (slK K) (slK V) (slX_apply x b s0 X hX) (slK_apply k b K hK) (slK_apply v b V hV) _ _ _ _ _ ?_)
  · match a with
    | ⟨0, _⟩ => show (y 0).val = 0 + 0; omega
    | ⟨1, _⟩ => show (y 1).val = 0 + (y 1).val; omega
    | ⟨2, _⟩ => show (y 2).val = 128 * ((y 2).val / 128) + (y 2).val % 128; omega
  · show (y 2).val = 128 * ((y 2).val / 128) + (y 2).val % 128; omega

theorem oscV_apply (c : Fin 128) : oscV X K V (ix2 0 c) = ((qsc (oF x k v b (s0 + c.val)) : ℝ) : EReal) :=
  oScale_apply x k v b s0 hbx hbk hbv (slX X) (slK K) (slK V) (slX_apply x b s0 X hX) (slK_apply k b K hK) (slK_apply v b V hV) c

end Blocks

end Cert.KernelIdeal.Hand

end

end
-- ==== Proof.KiPoints.lean ====
/- The body's branch conditions at each grid point, and the staging buffers that the body is handed. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0, from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points before point 5 — by arithmetic of the point. -/
theorem hcond0_1 : ∀ t : Fin cfg0.N, cond0_1 (grid0.coords t) ↔ t.val < 5 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val < 5)

/-- The condition of the body's `scf.if` 2 (`k0_h3`), from the grid coordinates (the skeleton's scalar
    chain substituted). -/
abbrev cond0_2 (i : grid0.Coords) : Prop := k0_cond3 i = 1#1
/-- It holds at the points whose coordinates have i0 = 1 — by arithmetic of the point. -/
theorem hcond0_2 : ∀ t : Fin cfg0.N, cond0_2 (grid0.coords t) ↔ t.val / 5 % 3 = 1 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val / 5 % 3 = 1)

/-- The condition of the body's `scf.if` 3 (`k0_h4`), from the grid coordinates (the skeleton's scalar
    chain substituted). -/
abbrev cond0_3 (i : grid0.Coords) : Prop := k0_cond4 i = 1#1
/-- It holds at the points from point 10 on — by arithmetic of the point. -/
theorem hcond0_3 : ∀ t : Fin cfg0.N, cond0_3 (grid0.coords t) ↔ 10 ≤ t.val :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ 10 ≤ t.val)

/-! ## The kernel body on any staging memrefs: a subtype the run finds -/

/-- Each window's current staging memref at point `t`, spelled as the pipeline passes it , and its wholeness. -/
abbrev ms0_0 (t : Fin cfg0.N) : Memref sig .tc .vmem S1x128x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x640 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x64 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x640x64 .fp8e4m3 := Memref.whole cc0_scratch0
abbrev scM0_1 : Memref sig .tc .vmem S8x640x128 .f32 := Memref.whole cc0_scratch1
abbrev scM0_2 : Memref sig .tc .vmem S512x128 .f32 := Memref.whole cc0_scratch2
abbrev scM0_3 : Memref sig .tc .vmem S2560x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end

end
-- ==== Proof.KiRunA.lean ====
/- The run of the kernel's body at point 0 (the first block of batch 0). -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at point 0 (the first block of batch 0), on whole staging buffers: the inputs at their blocks, the scale plane at contents it is given,
    the prepared keys and values at anything. The pieces that the body stores in each output are the witness, last store first. -/
noncomputable def runA (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : cond0_1 i) (hc2 : ¬cond0_2 i) (hc3 : ¬cond0_3 i)
    (x0 : Vec F S1x128x2560 .bf16) (x1 : Vec F S1x640x512 .bf16) (x2 : Vec F S1x640x512 .bf16) (x4 : Vec F S3x640 .f32) :
    Σ' (L3 : List (View.Piece (Elt F) S1x128x2560 .fp8e4m3)), Σ' (L4 : List (View.Piece (Elt F) S3x640 .f32)), Σ' (L5 : List (View.Piece (Elt F) S1x2560x128 .fp8e4m3)), Σ' (L6 : List (View.Piece (Elt F) S1x40x128 .f32)), Σ' (L7 : List (View.Piece (Elt F) S1x512x640 .fp8e4m3)), Σ' (L8 : List (View.Piece (Elt F) S1x8x640 .f32)), Σ' (L9 : List (View.Piece (Elt F) S1x512x640 .fp8e4m3)), Σ' (L10 : List (View.Piece (Elt F) S1x8x64 .f32)), Σ' (L11 : List (View.Piece (Elt F) S8x640x64 .fp8e4m3)), Σ' (L12 : List (View.Piece (Elt F) S8x640x128 .f32)), { L13 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _, _; isplitr; swap; · iexact H14
    ipureintro; rfl

end Cert.KernelIdeal.Hand

end

end
-- ==== Proof.KiPiecesA.lean ====
/- What the body stores at point 0 (the first block of batch 0), piece by piece, in the terms of the definitions of the body. -/
module

public import proofs.«01_k».proof.Proof.KiSpec
public import proofs.«01_k».proof.Proof.KiRunA

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : cond0_0 i) (hc1 : cond0_1 i) (hc2 : ¬cond0_2 i) (hc3 : ¬cond0_3 i)
  (x0 : Vec F S1x128x2560 .bf16) (x1 : Vec F S1x640x512 .bf16) (x2 : Vec F S1x640x512 .bf16) (x4 : Vec F S3x640 .f32)

theorem runA_Out :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).1 = listOut (ldX arg2 harg2 x0) (covP (ldK arg3 harg3 x1) (ldK arg4 harg4 x2) arg11 arg13 arg14 arg15) (ldU (ldX arg2 harg2 x0) (covP (ldK arg3 harg3 x1) (ldK arg4 harg4 x2) arg11 arg13 arg14 arg15) arg16) := by
  sl_kernel_rfl

theorem runA_Osc :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.1 = [⟨Rect.unit (s := S3x640) (k0_off1 i) S1x128.size (k0_off1_inb i hc1), scaleOf (oExp (ldX arg2 harg2 x0) (covP (ldK arg3 harg3 x1) (ldK arg4 harg4 x2) arg11 arg13 arg14 arg15))⟩] := by
  sl_kernel_rfl

theorem runA_Qt :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.1 = listQt (ldX arg2 harg2 x0) := by
  sl_kernel_rfl

theorem runA_Qsc :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.1 = listQsc (ldX arg2 harg2 x0) := by
  sl_kernel_rfl

theorem runA_Kt :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.1 = listKt (ldK arg3 harg3 x1) := by
  sl_kernel_rfl

theorem runA_Ksc :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.1 = listKsc (ldK arg3 harg3 x1) := by
  sl_kernel_rfl

theorem runA_Vt :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.1 = listVt (ldK arg4 harg4 x2) := by
  sl_kernel_rfl

theorem runA_Vsc :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.1 = listVsc (ldK arg4 harg4 x2) := by
  sl_kernel_rfl

theorem runA_Kn :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.1 = listKn (ldK arg3 harg3 x1) := by
  sl_kernel_rfl

theorem runA_Kcol :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.1 = listKcol (ldK arg3 harg3 x1) := by
  sl_kernel_rfl

theorem runA_Vcol :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.2.1 = listVcol (ldK arg4 harg4 x2) := by
  sl_kernel_rfl

end

end Cert.KernelIdeal.Hand

end

end
-- ==== Proof.KiRunB.lean ====
/- The run of the kernel's body at points 1 to 4. -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at points 1 to 4, on whole staging buffers: the inputs at their blocks, the scale plane at contents it is given,
    the prepared keys and values (outputs and scratch) at the contents they are given, which the body only reads. The pieces that the body stores in each output are the witness, last store first. -/
noncomputable def runB (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : cond0_1 i) (hc2 : ¬cond0_2 i) (hc3 : ¬cond0_3 i)
    (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32) :
    Σ' (L3 : List (View.Piece (Elt F) S1x128x2560 .fp8e4m3)), Σ' (L4 : List (View.Piece (Elt F) S3x640 .f32)), Σ' (L5 : List (View.Piece (Elt F) S1x2560x128 .fp8e4m3)), { L6 : List (View.Piece (Elt F) S1x40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg6.eq_unread hf4; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _, _; isplitr; swap; · iexact H14
    ipureintro; rfl

end Cert.KernelIdeal.Hand

end

end
-- ==== Proof.KiPiecesB.lean ====
/- What the body stores at points 1 to 4, piece by piece, in the terms of the definitions of the body. -/
module

public import proofs.«01_k».proof.Proof.KiSpec
public import proofs.«01_k».proof.Proof.KiRunB

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : ¬cond0_0 i) (hc1 : cond0_1 i) (hc2 : ¬cond0_2 i) (hc3 : ¬cond0_3 i)
  (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32)

theorem runB_Out :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).1 = listOut (ldX arg2 harg2 x0) (ldP arg11 harg11 arg13 harg13 arg14 harg14 arg15 harg15 x9 x11 x12 x13) (ldU (ldX arg2 harg2 x0) (ldP arg11 harg11 arg13 harg13 arg14 harg14 arg15 harg15 x9 x11 x12 x13) arg16) := by
  sl_kernel_rfl

theorem runB_Osc :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.1 = [⟨Rect.unit (s := S3x640) (k0_off1 i) S1x128.size (k0_off1_inb i hc1), scaleOf (oExp (ldX arg2 harg2 x0) (ldP arg11 harg11 arg13 harg13 arg14 harg14 arg15 harg15 x9 x11 x12 x13))⟩] := by
  sl_kernel_rfl

theorem runB_Qt :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.1 = listQt (ldX arg2 harg2 x0) := by
  sl_kernel_rfl

theorem runB_Qsc :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.2.1 = listQsc (ldX arg2 harg2 x0) := by
  sl_kernel_rfl

end

end Cert.KernelIdeal.Hand

end

end
-- ==== Proof.KiRunC.lean ====
/- The run of the kernel's body at point 5 (the first block of batch 1). -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at point 5 (the first block of batch 1), on whole staging buffers: the inputs at their blocks, the scale plane at contents it is given,
    the prepared keys and values at anything. The pieces that the body stores in each output are the witness, last store first. -/
noncomputable def runC (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : ¬cond0_1 i) (hc2 : cond0_2 i) (hc3 : ¬cond0_3 i)
    (x0 : Vec F S1x128x2560 .bf16) (x1 : Vec F S1x640x512 .bf16) (x2 : Vec F S1x640x512 .bf16) (x4 : Vec F S3x640 .f32) :
    Σ' (L3 : List (View.Piece (Elt F) S1x128x2560 .fp8e4m3)), Σ' (L4 : List (View.Piece (Elt F) S3x640 .f32)), Σ' (L5 : List (View.Piece (Elt F) S1x2560x128 .fp8e4m3)), Σ' (L6 : List (View.Piece (Elt F) S1x40x128 .f32)), Σ' (L7 : List (View.Piece (Elt F) S1x512x640 .fp8e4m3)), Σ' (L8 : List (View.Piece (Elt F) S1x8x640 .f32)), Σ' (L9 : List (View.Piece (Elt F) S1x512x640 .fp8e4m3)), Σ' (L10 : List (View.Piece (Elt F) S1x8x64 .f32)), Σ' (L11 : List (View.Piece (Elt F) S8x640x64 .fp8e4m3)), Σ' (L12 : List (View.Piece (Elt F) S8x640x128 .f32)), { L13 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _, _; isplitr; swap; · iexact H14
    ipureintro; rfl

end Cert.KernelIdeal.Hand

end

end
-- ==== Proof.KiPiecesC.lean ====
/- What the body stores at point 5 (the first block of batch 1), piece by piece, in the terms of the definitions of the body. -/
module

public import proofs.«01_k».proof.Proof.KiSpec
public import proofs.«01_k».proof.Proof.KiRunC

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : cond0_0 i) (hc1 : ¬cond0_1 i) (hc2 : cond0_2 i) (hc3 : ¬cond0_3 i)
  (x0 : Vec F S1x128x2560 .bf16) (x1 : Vec F S1x640x512 .bf16) (x2 : Vec F S1x640x512 .bf16) (x4 : Vec F S3x640 .f32)

theorem runC_Out :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).1 = listOut (ldX arg2 harg2 x0) (covP (ldK arg3 harg3 x1) (ldK arg4 harg4 x2) arg11 arg13 arg14 arg15) (ldU (ldX arg2 harg2 x0) (covP (ldK arg3 harg3 x1) (ldK arg4 harg4 x2) arg11 arg13 arg14 arg15) arg16) := by
  sl_kernel_rfl

theorem runC_Osc :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.1 = [⟨Rect.unit (s := S3x640) (k0_off2 i) S1x128.size (k0_off2_inb i hc2), scaleOf (oExp (ldX arg2 harg2 x0) (covP (ldK arg3 harg3 x1) (ldK arg4 harg4 x2) arg11 arg13 arg14 arg15))⟩] := by
  sl_kernel_rfl

theorem runC_Qt :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.1 = listQt (ldX arg2 harg2 x0) := by
  sl_kernel_rfl

theorem runC_Qsc :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.1 = listQsc (ldX arg2 harg2 x0) := by
  sl_kernel_rfl

theorem runC_Kt :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.1 = listKt (ldK arg3 harg3 x1) := by
  sl_kernel_rfl

theorem runC_Ksc :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.1 = listKsc (ldK arg3 harg3 x1) := by
  sl_kernel_rfl

theorem runC_Vt :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.1 = listVt (ldK arg4 harg4 x2) := by
  sl_kernel_rfl

theorem runC_Vsc :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.1 = listVsc (ldK arg4 harg4 x2) := by
  sl_kernel_rfl

theorem runC_Kn :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.1 = listKn (ldK arg3 harg3 x1) := by
  sl_kernel_rfl

theorem runC_Kcol :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.1 = listKcol (ldK arg3 harg3 x1) := by
  sl_kernel_rfl

theorem runC_Vcol :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.2.1 = listVcol (ldK arg4 harg4 x2) := by
  sl_kernel_rfl

end

end Cert.KernelIdeal.Hand

end

end
-- ==== Proof.KiRunD.lean ====
/- The run of the kernel's body at points 6 to 9. -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at points 6 to 9, on whole staging buffers: the inputs at their blocks, the scale plane at contents it is given,
    the prepared keys and values (outputs and scratch) at the contents they are given, which the body only reads. The pieces that the body stores in each output are the witness, last store first. -/
noncomputable def runD (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : ¬cond0_1 i) (hc2 : cond0_2 i) (hc3 : ¬cond0_3 i)
    (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32) :
    Σ' (L3 : List (View.Piece (Elt F) S1x128x2560 .fp8e4m3)), Σ' (L4 : List (View.Piece (Elt F) S3x640 .f32)), Σ' (L5 : List (View.Piece (Elt F) S1x2560x128 .fp8e4m3)), { L6 : List (View.Piece (Elt F) S1x40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg6.eq_unread hf4; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _, _; isplitr; swap; · iexact H14
    ipureintro; rfl

end Cert.KernelIdeal.Hand

end

end
-- ==== Proof.KiPiecesD.lean ====
/- What the body stores at points 6 to 9, piece by piece, in the terms of the definitions of the body. -/
module

public import proofs.«01_k».proof.Proof.KiSpec
public import proofs.«01_k».proof.Proof.KiRunD

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : ¬cond0_0 i) (hc1 : ¬cond0_1 i) (hc2 : cond0_2 i) (hc3 : ¬cond0_3 i)
  (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32)

theorem runD_Out :
    (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).1 = listOut (ldX arg2 harg2 x0) (ldP arg11 harg11 arg13 harg13 arg14 harg14 arg15 harg15 x9 x11 x12 x13) (ldU (ldX arg2 harg2 x0) (ldP arg11 harg11 arg13 harg13 arg14 harg14 arg15 harg15 x9 x11 x12 x13) arg16) := by
  sl_kernel_rfl

theorem runD_Osc :
    (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.1 = [⟨Rect.unit (s := S3x640) (k0_off2 i) S1x128.size (k0_off2_inb i hc2), scaleOf (oExp (ldX arg2 harg2 x0) (ldP arg11 harg11 arg13 harg13 arg14 harg14 arg15 harg15 x9 x11 x12 x13))⟩] := by
  sl_kernel_rfl

theorem runD_Qt :
    (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.1 = listQt (ldX arg2 harg2 x0) := by
  sl_kernel_rfl

theorem runD_Qsc :
    (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.2.1 = listQsc (ldX arg2 harg2 x0) := by
  sl_kernel_rfl

end

end Cert.KernelIdeal.Hand

end

end
-- ==== Proof.KiRunE.lean ====
/- The run of the kernel's body at point 10 (the first block of batch 2). -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at point 10 (the first block of batch 2), on whole staging buffers: the inputs at their blocks, the scale plane at contents it is given,
    the prepared keys and values at anything. The pieces that the body stores in each output are the witness, last store first. -/
noncomputable def runE (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : cond0_0 i) (hc1 : ¬cond0_1 i) (hc2 : ¬cond0_2 i) (hc3 : cond0_3 i)
    (x0 : Vec F S1x128x2560 .bf16) (x1 : Vec F S1x640x512 .bf16) (x2 : Vec F S1x640x512 .bf16) (x4 : Vec F S3x640 .f32) :
    Σ' (L3 : List (View.Piece (Elt F) S1x128x2560 .fp8e4m3)), Σ' (L4 : List (View.Piece (Elt F) S3x640 .f32)), Σ' (L5 : List (View.Piece (Elt F) S1x2560x128 .fp8e4m3)), Σ' (L6 : List (View.Piece (Elt F) S1x40x128 .f32)), Σ' (L7 : List (View.Piece (Elt F) S1x512x640 .fp8e4m3)), Σ' (L8 : List (View.Piece (Elt F) S1x8x640 .f32)), Σ' (L9 : List (View.Piece (Elt F) S1x512x640 .fp8e4m3)), Σ' (L10 : List (View.Piece (Elt F) S1x8x64 .f32)), Σ' (L11 : List (View.Piece (Elt F) S8x640x64 .fp8e4m3)), Σ' (L12 : List (View.Piece (Elt F) S8x640x128 .f32)), { L13 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_gqa_fp8_eq_skeleton]; unfold cc0_gqa_fp8_skel
    simp only [k0_part119_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _, _; isplitr; swap; · iexact H14
    ipureintro; rfl

end Cert.KernelIdeal.Hand

end

end
-- ==== Proof.KiPiecesE.lean ====
/- What the body stores at point 10 (the first block of batch 2), piece by piece, in the terms of the definitions of the body. -/
module

public import proofs.«01_k».proof.Proof.KiSpec
public import proofs.«01_k».proof.Proof.KiRunE

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : cond0_0 i) (hc1 : ¬cond0_1 i) (hc2 : ¬cond0_2 i) (hc3 : cond0_3 i)
  (x0 : Vec F S1x128x2560 .bf16) (x1 : Vec F S1x640x512 .bf16) (x2 : Vec F S1x640x512 .bf16) (x4 : Vec F S3x640 .f32)

theorem runE_Out :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).1 = listOut (ldX arg2 harg2 x0) (covP (ldK arg3 harg3 x1) (ldK arg4 harg4 x2) arg11 arg13 arg14 arg15) (ldU (ldX arg2 harg2 x0) (covP (ldK arg3 harg3 x1) (ldK arg4 harg4 x2) arg11 arg13 arg14 arg15) arg16) := by
  sl_kernel_rfl

theorem runE_Osc :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.1 = [⟨Rect.unit (s := S3x640) (k0_off3 i) S1x128.size (k0_off3_inb i hc3), scaleOf (oExp (ldX arg2 harg2 x0) (covP (ldK arg3 harg3 x1) (ldK arg4 harg4 x2) arg11 arg13 arg14 arg15))⟩] := by
  sl_kernel_rfl

theorem runE_Qt :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.1 = listQt (ldX arg2 harg2 x0) := by
  sl_kernel_rfl

theorem runE_Qsc :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.1 = listQsc (ldX arg2 harg2 x0) := by
  sl_kernel_rfl

theorem runE_Kt :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.1 = listKt (ldK arg3 harg3 x1) := by
  sl_kernel_rfl

theorem runE_Ksc :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.1 = listKsc (ldK arg3 harg3 x1) := by
  sl_kernel_rfl

theorem runE_Vt :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.1 = listVt (ldK arg4 harg4 x2) := by
  sl_kernel_rfl

theorem runE_Vsc :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.1 = listVsc (ldK arg4 harg4 x2) := by
  sl_kernel_rfl

theorem runE_Kn :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.1 = listKn (ldK arg3 harg3 x1) := by
  sl_kernel_rfl

theorem runE_Kcol :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.1 = listKcol (ldK arg3 harg3 x1) := by
  sl_kernel_rfl

theorem runE_Vcol :
    (runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4).2.2.2.2.2.2.2.2.2.2.1 = listVcol (ldK arg4 harg4 x2) := by
  sl_kernel_rfl

end

end Cert.KernelIdeal.Hand

end

end
-- ==== Proof.KiRunF.lean ====
/- The run of the kernel's body at points 11 to 14. -/
module

public import proofs.«01_k».proof.Proof.KiPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 3968000 in
/-- The body at points 11 to 14, on whole staging buffers: the inputs at their blocks, the scale plane at contents it is given,
    the prepared keys and values (outputs and scratch) at the contents they are given, which the body only reads. The pieces that the body stores in each output are the witness, last store first. -/
noncomputable def runF (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole) (hc0 : ¬cond0_0 i) (hc1 : ¬cond0_1 i) (hc2 : ¬cond0_2 i) (hc3 : cond0_3 i)
    (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32) :
    Σ' (L3 : List (View.Piece (Elt F) S1x128x2560 .fp8e4m3)), Σ' (L4 : List (View.Piece (Elt F) S3x640 .f32)), Σ' (L5 : List (View.Piece (Elt F) S1x2560x128 .fp8e4m3)), { L6 : List (View.Piece (Elt F) S1x40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)) -∗ K ⟨⟩))
          ⊢ wp frame (wpE (defs₀ (F := F)) Variants.none c none) E (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_gqa_fp8_eq_skeleton]; unfold cc0_gqa_fp8_skel
    simp only [k0_part119_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part120_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg6.eq_unread hf4; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexact H4
    isplitl [H5]
    · iexists _; iexact H5
    isplitl [H6]
    · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _, _; isplitr; swap; · iexact H14
    ipureintro; rfl

end Cert.KernelIdeal.Hand

end

end
-- ==== Proof.KiPiecesF.lean ====
/- What the body stores at points 11 to 14, piece by piece, in the terms of the definitions of the body. -/
module

public import proofs.«01_k».proof.Proof.KiSpec
public import proofs.«01_k».proof.Proof.KiRunF

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

section

variable (c : Dev nD) (i : grid0.Coords) (arg2 : Memref sig .tc .vmem S1x128x2560 .bf16) (harg2 : arg2.IsWhole) (arg3 : Memref sig .tc .vmem S1x640x512 .bf16) (harg3 : arg3.IsWhole) (arg4 : Memref sig .tc .vmem S1x640x512 .bf16) (harg4 : arg4.IsWhole) (arg5 : Memref sig .tc .vmem S1x128x2560 .fp8e4m3) (harg5 : arg5.IsWhole) (arg6 : Memref sig .tc .vmem S3x640 .f32) (harg6 : arg6.IsWhole) (arg7 : Memref sig .tc .vmem S1x2560x128 .fp8e4m3) (harg7 : arg7.IsWhole) (arg8 : Memref sig .tc .vmem S1x40x128 .f32) (harg8 : arg8.IsWhole) (arg9 : Memref sig .tc .vmem S1x512x640 .fp8e4m3) (harg9 : arg9.IsWhole) (arg10 : Memref sig .tc .vmem S1x8x640 .f32) (harg10 : arg10.IsWhole) (arg11 : Memref sig .tc .vmem S1x512x640 .fp8e4m3) (harg11 : arg11.IsWhole) (arg12 : Memref sig .tc .vmem S1x8x64 .f32) (harg12 : arg12.IsWhole) (arg13 : Memref sig .tc .vmem S8x640x64 .fp8e4m3) (harg13 : arg13.IsWhole) (arg14 : Memref sig .tc .vmem S8x640x128 .f32) (harg14 : arg14.IsWhole) (arg15 : Memref sig .tc .vmem S512x128 .f32) (harg15 : arg15.IsWhole) (arg16 : Memref sig .tc .vmem S2560x128 .f32) (harg16 : arg16.IsWhole)
  (hc0 : ¬cond0_0 i) (hc1 : ¬cond0_1 i) (hc2 : ¬cond0_2 i) (hc3 : cond0_3 i)
  (x0 : Vec F S1x128x2560 .bf16) (x1 : Vec F S1x640x512 .bf16) (x2 : Vec F S1x640x512 .bf16) (x4 : Vec F S3x640 .f32) (x7 : Vec F S1x512x640 .fp8e4m3) (x8 : Vec F S1x8x640 .f32) (x9 : Vec F S1x512x640 .fp8e4m3) (x10 : Vec F S1x8x64 .f32) (x11 : Vec F S8x640x64 .fp8e4m3) (x12 : Vec F S8x640x128 .f32) (x13 : Vec F S512x128 .f32)

theorem runF_Out :
    (runF (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).1 = listOut (ldX arg2 harg2 x0) (ldP arg11 harg11 arg13 harg13 arg14 harg14 arg15 harg15 x9 x11 x12 x13) (ldU (ldX arg2 harg2 x0) (ldP arg11 harg11 arg13 harg13 arg14 harg14 arg15 harg15 x9 x11 x12 x13) arg16) := by
  sl_kernel_rfl

theorem runF_Osc :
    (runF (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.1 = [⟨Rect.unit (s := S3x640) (k0_off3 i) S1x128.size (k0_off3_inb i hc3), scaleOf (oExp (ldX arg2 harg2 x0) (ldP arg11 harg11 arg13 harg13 arg14 harg14 arg15 harg15 x9 x11 x12 x13))⟩] := by
  sl_kernel_rfl

theorem runF_Qt :
    (runF (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.1 = listQt (ldX arg2 harg2 x0) := by
  sl_kernel_rfl

theorem runF_Qsc :
    (runF (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x4 x7 x8 x9 x10 x11 x12 x13).2.2.2.1 = listQsc (ldX arg2 harg2 x0) := by
  sl_kernel_rfl

end

end Cert.KernelIdeal.Hand

end

end
-- ==== Proof.KiFrame.lean ====
/- What each point of the kernel leaves in its windows and its scratch, and the run that follows. -/
module

public import proofs.«01_k».proof.Proof.KiPiecesA
public import proofs.«01_k».proof.Proof.KiPiecesB
public import proofs.«01_k».proof.Proof.KiPiecesC
public import proofs.«01_k».proof.Proof.KiPiecesD
public import proofs.«01_k».proof.Proof.KiPiecesE
public import proofs.«01_k».proof.Proof.KiPiecesF
public import proofs.«01_k».proof.Proof.KiContents

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem coords_0 : ∀ t : Fin cfg0.N, (grid0.coords t 0).val = t.val / 5 % 3 := (fun t => Pipeline.Grid.coords_val t 0 (by decide) rfl : ∀ t : Fin grid0.N, (grid0.coords t 0).val = t.val / 5 % 3)
theorem coords_1 : ∀ t : Fin cfg0.N, (grid0.coords t 1).val = t.val % 5 := fun t => by
  have h : (grid0.coords t 1).val = t.val / 1 % 5 := Pipeline.Grid.coords_val t 1 (by decide) rfl
  rw [h, Nat.div_one]

/-- The invariant: before the first point anything, after a point the batch's prepared keys and scales in the scratch. -/
def PhiS (c : Dev nD) : (n : ℕ) → n ≤ cfg0.N → sProp 𝕄
  | 0, _ => Pipeline.ΦA spec0 c
  | n + 1, h => iprop(iprop(owns (c : Thread nD τ) scM0_0 fullShare (knC (iblk m c 1 ⟨n, h⟩)) ∗ owns (c : Thread nD τ) scM0_1 fullShare (kcolC (iblk m c 1 ⟨n, h⟩)) ∗ owns (c : Thread nD τ) scM0_2 fullShare (vcolC (iblk m c 2 ⟨n, h⟩)) ∗ (∃ d, owns (c : Thread nD τ) scM0_3 fullShare d)) ∗ (∃ r, prngReg c r))

theorem PhiS_succ (c : Dev nD) (n : ℕ) (h : n + 1 ≤ cfg0.N) :
    PhiS m c (n + 1) h = iprop(iprop(owns (c : Thread nD τ) scM0_0 fullShare (knC (iblk m c 1 ⟨n, h⟩)) ∗ owns (c : Thread nD τ) scM0_1 fullShare (kcolC (iblk m c 1 ⟨n, h⟩)) ∗ owns (c : Thread nD τ) scM0_2 fullShare (vcolC (iblk m c 2 ⟨n, h⟩)) ∗ (∃ d, owns (c : Thread nD τ) scM0_3 fullShare d)) ∗ (∃ r, prngReg c r)) := rfl

theorem PhiS_forget (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1, HS2, HS3⟩, Hg⟩
    isplitl [HS0 HS1 HS2 HS3]
    · isplitl [HS0]
      · iexists _; iexact HS0
      isplitl [HS1]
      · iexists _; iexact HS1
      isplitl [HS2]
      · iexists _; iexact HS2
      iexact HS3
    iexact Hg

/-- The proof data: what the body leaves in each window at each point. -/
def rdat (c : Dev nD) : RDat τ (Elt F) Unit ℕ (UR sig nD τ) ℕ cfg0 c where
  A := fun w => V m c (Pipeline.arrRef spec0 w)
  after := fun w t => match w with
    | ⟨0, _⟩ => fun Y X => X = Y
    | ⟨1, _⟩ => fun Y X => X = Y
    | ⟨2, _⟩ => fun Y X => X = Y
    | ⟨3, _⟩ => fun Y X => X = outC (iblk m c 0 t) (iblk m c 1 t) (iblk m c 2 t)
    | ⟨4, _⟩ => fun Y X => OscRel t.val (oscV (iblk m c 0 t) (iblk m c 1 t) (iblk m c 2 t)) Y X
    | ⟨5, _⟩ => fun Y X => X = qtC (iblk m c 0 t)
    | ⟨6, _⟩ => fun Y X => X = qscC (iblk m c 0 t)
    | ⟨7, _⟩ => fun Y X => X = ktC (iblk m c 1 t)
    | ⟨8, _⟩ => fun Y X => X = kscC (iblk m c 1 t)
    | ⟨9, _⟩ => fun Y X => X = vtC (iblk m c 2 t)
    | ⟨10, _⟩ => fun Y X => X = vscC (iblk m c 2 t)
  Φ := fun t => PhiS m c t.val (Nat.le_of_lt_succ t.isLt)
  q := fun _ => fullShare
  owed := fun _ => 0

theorem A_eq (c : Dev nD) (w : Fin cfg0.W) : (rdat m c).A w = V m c (Pipeline.arrRef spec0 w) := by
  dsimp only [rdat]
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = outC (iblk m c 0 t) (iblk m c 1 t) (iblk m c 2 t)) := by dsimp only [rdat]
theorem after_4 (c : Dev nD) (t : Fin cfg0.N) (Y X) : (rdat m c).after 4 t Y X = (OscRel t.val (oscV (iblk m c 0 t) (iblk m c 1 t) (iblk m c 2 t)) Y X) := by dsimp only [rdat]
theorem after_5 (c : Dev nD) (t : Fin cfg0.N) (Y X) : (rdat m c).after 5 t Y X = (X = qtC (iblk m c 0 t)) := by dsimp only [rdat]
theorem after_6 (c : Dev nD) (t : Fin cfg0.N) (Y X) : (rdat m c).after 6 t Y X = (X = qscC (iblk m c 0 t)) := by dsimp only [rdat]
theorem after_7 (c : Dev nD) (t : Fin cfg0.N) (Y X) : (rdat m c).after 7 t Y X = (X = ktC (iblk m c 1 t)) := by dsimp only [rdat]
theorem after_8 (c : Dev nD) (t : Fin cfg0.N) (Y X) : (rdat m c).after 8 t Y X = (X = kscC (iblk m c 1 t)) := by dsimp only [rdat]
theorem after_9 (c : Dev nD) (t : Fin cfg0.N) (Y X) : (rdat m c).after 9 t Y X = (X = vtC (iblk m c 2 t)) := by dsimp only [rdat]
theorem after_10 (c : Dev nD) (t : Fin cfg0.N) (Y X) : (rdat m c).after 10 t Y X = (X = vscC (iblk m c 2 t)) := by dsimp only [rdat]

theorem fetched_0 (c : Dev nD) (t : Fin cfg0.N) (d) : (rdat m c).fetched 0 t d = iblk m c 0 t := by
  unfold RDat.fetched RDat.blockOf iblk; rw [A_eq]; try rfl
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [after_0] at h; exact h) t Y h
  exact hd.trans (fetched_0 m c t d)
theorem fetched_1 (c : Dev nD) (t : Fin cfg0.N) (d) : (rdat m c).fetched 1 t d = iblk m c 1 t := by
  unfold RDat.fetched RDat.blockOf iblk; rw [A_eq]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [after_1] at h; exact h) t Y h
  exact hd.trans (fetched_1 m c t d)
theorem fetched_2 (c : Dev nD) (t : Fin cfg0.N) (d) : (rdat m c).fetched 2 t d = iblk m c 2 t := by
  unfold RDat.fetched RDat.blockOf iblk; rw [A_eq]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [after_2] at h; exact h) t Y h
  exact hd.trans (fetched_2 m c t d)
/-- The batch's block is the same at every point of the batch. -/
theorem iblk_prev_1 (c : Dev nD) (t : Fin cfg0.N) (h0 : ¬t.val % 5 = 0) :
    iblk m c 1 ⟨t.val - 1, Nat.lt_of_le_of_lt (Nat.sub_le _ _) t.isLt⟩ = iblk m c 1 t := by
  have hf : (cfg0.win 1).fetch t = false := by rw [← Bool.not_eq_true]; exact fun h => h0 ((fetch0_1 t).mp h)
  obtain ⟨ht, hix⟩ := (cfg0.win 1).index_eq_of_fetch rfl t hf
  rw [← fetched_1 m c t (iblk m c 1 t), ← fetched_1 m c ⟨t.val - 1, Nat.lt_of_le_of_lt (Nat.sub_le _ _) t.isLt⟩ (iblk m c 1 t)]
  exact (rdat m c).fetched_congr 1 hix.symm rfl _
/-- The batch's block is the same at every point of the batch. -/
theorem iblk_prev_2 (c : Dev nD) (t : Fin cfg0.N) (h0 : ¬t.val % 5 = 0) :
    iblk m c 2 ⟨t.val - 1, Nat.lt_of_le_of_lt (Nat.sub_le _ _) t.isLt⟩ = iblk m c 2 t := by
  have hf : (cfg0.win 2).fetch t = false := by rw [← Bool.not_eq_true]; exact fun h => h0 ((fetch0_2 t).mp h)
  obtain ⟨ht, hix⟩ := (cfg0.win 2).index_eq_of_fetch rfl t hf
  rw [← fetched_2 m c t (iblk m c 2 t), ← fetched_2 m c ⟨t.val - 1, Nat.lt_of_le_of_lt (Nat.sub_le _ _) t.isLt⟩ (iblk m c 2 t)]
  exact (rdat m c).fetched_congr 2 hix.symm rfl _
theorem finds_7 (c : Dev nD) (t : Fin cfg0.N) (h0 : ¬t.val % 5 = 0) (Y) (h : (rdat m c).Finds 7 t Y) : Y = ktC (iblk m c 1 t) := by
  have hf : (cfg0.win 7).fetch t = false := by unfold Pipeline.Window.fetch; rw [show (cfg0.win 7).isOut = true from rfl]; rfl
  rcases ((rdat m c).finds_of_pos hf (by omega) Y).mp h with hfl | ⟨Y', _, hR⟩
  · have := (flush0_7 _).mp hfl
    have e : (⟨t.val - 1, Nat.lt_of_le_of_lt (Nat.sub_le _ _) t.isLt⟩ : Fin cfg0.N).val = t.val - 1 := rfl
    omega
  · rw [after_7, iblk_prev_1 m c t h0] at hR
    exact hR
theorem finds_8 (c : Dev nD) (t : Fin cfg0.N) (h0 : ¬t.val % 5 = 0) (Y) (h : (rdat m c).Finds 8 t Y) : Y = kscC (iblk m c 1 t) := by
  have hf : (cfg0.win 8).fetch t = false := by unfold Pipeline.Window.fetch; rw [show (cfg0.win 8).isOut = true from rfl]; rfl
  rcases ((rdat m c).finds_of_pos hf (by omega) Y).mp h with hfl | ⟨Y', _, hR⟩
  · have := (flush0_8 _).mp hfl
    have e : (⟨t.val - 1, Nat.lt_of_le_of_lt (Nat.sub_le _ _) t.isLt⟩ : Fin cfg0.N).val = t.val - 1 := rfl
    omega
  · rw [after_8, iblk_prev_1 m c t h0] at hR
    exact hR
theorem finds_9 (c : Dev nD) (t : Fin cfg0.N) (h0 : ¬t.val % 5 = 0) (Y) (h : (rdat m c).Finds 9 t Y) : Y = vtC (iblk m c 2 t) := by
  have hf : (cfg0.win 9).fetch t = false := by unfold Pipeline.Window.fetch; rw [show (cfg0.win 9).isOut = true from rfl]; rfl
  rcases ((rdat m c).finds_of_pos hf (by omega) Y).mp h with hfl | ⟨Y', _, hR⟩
  · have := (flush0_9 _).mp hfl
    have e : (⟨t.val - 1, Nat.lt_of_le_of_lt (Nat.sub_le _ _) t.isLt⟩ : Fin cfg0.N).val = t.val - 1 := rfl
    omega
  · rw [after_9, iblk_prev_2 m c t h0] at hR
    exact hR
theorem finds_10 (c : Dev nD) (t : Fin cfg0.N) (h0 : ¬t.val % 5 = 0) (Y) (h : (rdat m c).Finds 10 t Y) : Y = vscC (iblk m c 2 t) := by
  have hf : (cfg0.win 10).fetch t = false := by unfold Pipeline.Window.fetch; rw [show (cfg0.win 10).isOut = true from rfl]; rfl
  rcases ((rdat m c).finds_of_pos hf (by omega) Y).mp h with hfl | ⟨Y', _, hR⟩
  · have := (flush0_10 _).mp hfl
    have e : (⟨t.val - 1, Nat.lt_of_le_of_lt (Nat.sub_le _ _) t.isLt⟩ : Fin cfg0.N).val = t.val - 1 := rfl
    omega
  · rw [after_10, iblk_prev_2 m c t h0] at hR
    exact hR
/-- What the body is handed at a point. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10))

/-- The same with the scratch at anything. -/
def bodyPre0 (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10))

theorem bodyPre_forget (c : Dev nD) (t : Fin cfg0.N) (Y : (w : Fin cfg0.W) → (cfg0.win w).block.Idx → Elt F (cfg0.win w).elt) : bodyPre m c t Y ⊢ bodyPre0 m c t Y := by
  unfold bodyPre bodyPre0
  rw [show (rdat m c).Φ t.castSucc = PhiS m c t.val (Nat.le_of_lt t.isLt) from rfl]
  exact sep_mono (PhiS_forget m c _ _) .rfl

/-- What it hands back. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X))

theorem PhiS_prev (c : Dev nD) (t : Fin cfg0.N) (h0 : ¬t.val % 5 = 0) :
    PhiS m c t.val (Nat.le_of_lt t.isLt) = iprop(iprop(owns (c : Thread nD τ) scM0_0 fullShare (knC (iblk m c 1 t)) ∗ owns (c : Thread nD τ) scM0_1 fullShare (kcolC (iblk m c 1 t)) ∗ owns (c : Thread nD τ) scM0_2 fullShare (vcolC (iblk m c 2 t)) ∗ (∃ d, owns (c : Thread nD τ) scM0_3 fullShare d)) ∗ (∃ r, prngReg c r)) := by
  rw [← iblk_prev_1 m c t h0, ← iblk_prev_2 m c t h0]
  obtain ⟨n, hn⟩ := t
  cases n with
  | zero => exact absurd rfl h0
  | succ n => rfl

theorem ldPC_eq (K V : Vec F S1x640x512 .bf16) (arg11 : Memref sig .tc .vmem S1x512x640 .fp8e4m3) (harg11 : arg11.IsWhole) (arg13 : Memref sig .tc .vmem S8x640x64 .fp8e4m3) (harg13 : arg13.IsWhole)
    (arg14 : Memref sig .tc .vmem S8x640x128 .f32) (harg14 : arg14.IsWhole) (arg15 : Memref sig .tc .vmem S512x128 .f32) (harg15 : arg15.IsWhole) :
    ldP arg11 harg11 arg13 harg13 arg14 harg14 arg15 harg15 (vtC V) (knC K) (kcolC K) (vcolC V) = prep (slK K) (slK V) := by
  unfold vtC knC kcolC vcolC; exact ldP_eq _ _ _ _ _ _ _ _ _ _

set_option maxHeartbeats 28800000 in
theorem sound_A (c : Dev nD) (t : Fin cfg0.N) (Y : (w : Fin cfg0.W) → (cfg0.win w).block.Idx → Elt F (cfg0.win w).elt) (hY : ∀ w, (rdat m c).Finds w t (Y w)) (h0 : t.val % 5 = 0) (h1 : t.val < 5) (h2 : ¬t.val / 5 % 3 = 1) (h3 : ¬10 ≤ t.val) :
    bodyPre0 m c t Y ⊢ wp frame (wpE (defs₀ (F := F)) Variants.none c none) Set.univ (bodyAt0 t) (fun _ => bodyPost m c t Y) := by
  unfold bodyPre0 bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [PhiA0_eq]
  iintro ⟨⟨⟨HS0, HS1, HS2, HS3⟩, Hg⟩, Ho, H0, H1, H2, H3, H4, H5, H6, H7, H8, H9, H10⟩
  iapply ((runA c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (Y 4)).2.2.2.2.2.2.2.2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, HS3⟩
  isplitl [HS0 HS1 HS2 HS3 Hg]
  · isplitl [HS0 HS1 HS2 HS3]
    · isplitl [HS0]
      · unfold owns; iexists _; isplitr; swap; · iexact HS0
        ipureintro; rw [runA_Kn, ldK_eq]; exact read_Kn _ _ _
      isplitl [HS1]
      · unfold owns; iexists _; isplitr; swap; · iexact HS1
        ipureintro; rw [runA_Kcol, ldK_eq]; exact read_Kcol _ _ _
      isplitl [HS2]
      · unfold owns; iexists _; isplitr; swap; · iexact HS2
        ipureintro; rw [runA_Vcol, ldK_eq]; exact read_Vcol _ _ _
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runA_Out, ldX_eq, ldK_eq, ldK_eq, covP_eq, ldU_eq]; exact read_Out _ _ _ _ _
  isplitl [H4]
  · iexists _; isplitr; swap
    · unfold owns; iexists _; isplitr; swap; · iexact H4
      ipureintro; rfl
    ipureintro; rw [after_4, runA_Osc, ldX_eq, ldK_eq, ldK_eq, covP_eq]
    exact oscRel_of t.val _ (Y 4) _ _ _ _ (by rw [k0_off1_eq, coords_1]; congr 1; omega)
  isplitl [H5]
  · iexists _; isplitr; swap
    · unfold owns; iexists _; isplitr; swap; · iexact H5
      ipureintro; rfl
    ipureintro; rw [after_5, runA_Qt, ldX_eq]; exact read_Qt _ _ _
  isplitl [H6]
  · iexists _; isplitr; swap
    · unfold owns; iexists _; isplitr; swap; · iexact H6
      ipureintro; rfl
    ipureintro; rw [after_6, runA_Qsc, ldX_eq]; exact read_Qsc _ _ _
  isplitl [H7]
  · iexists _; isplitr; swap
    · unfold owns; iexists _; isplitr; swap; · iexact H7
      ipureintro; rfl
    ipureintro; rw [after_7, runA_Kt, ldK_eq]; exact read_Kt _ _ _
  isplitl [H8]
  · iexists _; isplitr; swap
    · unfold owns; iexists _; isplitr; swap; · iexact H8
      ipureintro; rfl
    ipureintro; rw [after_8, runA_Ksc, ldK_eq]; exact read_Ksc _ _ _
  isplitl [H9]
  · iexists _; isplitr; swap
    · unfold owns; iexists _; isplitr; swap; · iexact H9
      ipureintro; rfl
    ipureintro; rw [after_9, runA_Vt, ldK_eq]; exact read_Vt _ _ _
  iexists _; isplitr; swap
  · unfold owns; iexists _; isplitr; swap; · iexact H10
    ipureintro; rfl
  ipureintro; rw [after_10, runA_Vsc, ldK_eq]; exact read_Vsc _ _ _

set_option maxHeartbeats 28800000 in
theorem sound_B (c : Dev nD) (t : Fin cfg0.N) (Y : (w : Fin cfg0.W) → (cfg0.win w).block.Idx → Elt F (cfg0.win w).elt) (hY : ∀ w, (rdat m c).Finds w t (Y w)) (h0 : ¬t.val % 5 = 0) (h1 : t.val < 5) (h2 : ¬t.val / 5 % 3 = 1) (h3 : ¬10 ≤ t.val) :
    bodyPre m c t Y ⊢ wp frame (wpE (defs₀ (F := F)) Variants.none c none) Set.univ (bodyAt0 t) (fun _ => bodyPost m c t Y) := by
  unfold bodyPre bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [show (rdat m c).Φ t.castSucc = PhiS m c t.val (Nat.le_of_lt t.isLt) from rfl]
  obtain ⟨n, hn⟩ : ∃ n, t.val = n + 1 := ⟨t.val - 1, by omega⟩
  rw [PhiS_prev m c t h0]
  rw [finds_7 m c t h0 (Y 7) (hY 7)]
  rw [finds_8 m c t h0 (Y 8) (hY 8)]
  rw [finds_9 m c t h0 (Y 9) (hY 9)]
  rw [finds_10 m c t h0 (Y 10) (hY 10)]
  iintro ⟨⟨⟨HS0, HS1, HS2, HS3⟩, Hg⟩, Ho, H0, H1, H2, H3, H4, H5, H6, H7, H8, H9, H10⟩
  iapply ((runB c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (Y 4) (ktC (iblk m c 1 t)) (kscC (iblk m c 1 t)) (vtC (iblk m c 2 t)) (vscC (iblk m c 2 t)) (knC (iblk m c 1 t)) (kcolC (iblk m c 1 t)) (vcolC (iblk m c 2 t))).2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runB_Out, ldX_eq, ldPC_eq, ldU_eq]; exact read_Out _ _ _ _ _
  isplitl [H4]
  · iexists _; isplitr; swap
    · unfold owns; iexists _; isplitr; swap; · iexact H4
      ipureintro; rfl
    ipureintro; rw [after_4, runB_Osc, ldX_eq, ldPC_eq]
    exact oscRel_of t.val _ (Y 4) _ _ _ _ (by rw [k0_off1_eq, coords_1]; congr 1; omega)
  isplitl [H5]
  · iexists _; isplitr; swap
    · unfold owns; iexists _; isplitr; swap; · iexact H5
      ipureintro; rfl
    ipureintro; rw [after_5, runB_Qt, ldX_eq]; exact read_Qt _ _ _
  isplitl [H6]
  · iexists _; isplitr; swap
    · unfold owns; iexists _; isplitr; swap; · iexact H6
      ipureintro; rfl
    ipureintro; rw [after_6, runB_Qsc, ldX_eq]; exact read_Qsc _ _ _
  isplitl [H7]
  · iexists _; isplitr; swap
    · iexact H7
    ipureintro; rw [after_7]
  isplitl [H8]
  · iexists _; isplitr; swap
    · iexact H8
    ipureintro; rw [after_8]
  isplitl [H9]
  · iexists _; isplitr; swap
    · iexact H9
    ipureintro; rw [after_9]
  iexists _; isplitr; swap
  · iexact H10
  ipureintro; rw [after_10]

set_option maxHeartbeats 28800000 in
theorem sound_C (c : Dev nD) (t : Fin cfg0.N) (Y : (w : Fin cfg0.W) → (cfg0.win w).block.Idx → Elt F (cfg0.win w).elt) (hY : ∀ w, (rdat m c).Finds w t (Y w)) (h0 : t.val % 5 = 0) (h1 : ¬t.val < 5) (h2 : t.val / 5 % 3 = 1) (h3 : ¬10 ≤ t.val) :
    bodyPre0 m c t Y ⊢ wp frame (wpE (defs₀ (F := F)) Variants.none c none) Set.univ (bodyAt0 t) (fun _ => bodyPost m c t Y) := by
  unfold bodyPre0 bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [PhiA0_eq]
  iintro ⟨⟨⟨HS0, HS1, HS2, HS3⟩, Hg⟩, Ho, H0, H1, H2, H3, H4, H5, H6, H7, H8, H9, H10⟩
  iapply ((runC c (grid0.coords t) _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (Y 4)).2.2.2.2.2.2.2.2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, HS3⟩
  isplitl [HS0 HS1 HS2 HS3 Hg]
  · isplitl [HS0 HS1 HS2 HS3]
    · isplitl [HS0]
      · unfold owns; iexists _; isplitr; swap; · iexact HS0
        ipureintro; rw [runC_Kn, ldK_eq]; exact read_Kn _ _ _
      isplitl [HS1]
      · unfold owns; iexists _; isplitr; swap; · iexact HS1
        ipureintro; rw [runC_Kcol, ldK_eq]; exact read_Kcol _ _ _
      isplitl [HS2]
      · unfold owns; iexists _; isplitr; swap; · iexact HS2
        ipureintro; rw [runC_Vcol, ldK_eq]; exact read_Vcol _ _ _
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runC_Out, ldX_eq, ldK_eq, ldK_eq, covP_eq, ldU_eq]; exact read_Out _ _ _ _ _
  isplitl [H4]
  · iexists _; isplitr; swap
    · unfold owns; iexists _; isplitr; swap; · iexact H4
      ipureintro; rfl
    ipureintro; rw [after_4, runC_Osc, ldX_eq, ldK_eq, ldK_eq, covP_eq]
    exact oscRel_of t.val _ (Y 4) _ _ _ _ (by rw [k0_off2_eq, coords_1]; congr 1; omega)
  isplitl [H5]
  · iexists _; isplitr; swap
    · unfold owns; iexists _; isplitr; swap; · iexact H5
      ipureintro; rfl
    ipureintro; rw [after_5, runC_Qt, ldX_eq]; exact read_Qt _ _ _
  isplitl [H6]
  · iexists _; isplitr; swap
    · unfold owns; iexists _; isplitr; swap; · iexact H6
      ipureintro; rfl
    ipureintro; rw [after_6, runC_Qsc, ldX_eq]; exact read_Qsc _ _ _
  isplitl [H7]
  · iexists _; isplitr; swap
    · unfold owns; iexists _; isplitr; swap; · iexact H7
      ipureintro; rfl
    ipureintro; rw [after_7, runC_Kt, ldK_eq]; exact read_Kt _ _ _
  isplitl [H8]
  · iexists _; isplitr; swap
    · unfold owns; iexists _; isplitr; swap; · iexact H8
      ipureintro; rfl
    ipureintro; rw [after_8, runC_Ksc, ldK_eq]; exact read_Ksc _ _ _
  isplitl [H9]
  · iexists _; isplitr; swap
    · unfold owns; iexists _; isplitr; swap; · iexact H9
      ipureintro; rfl
    ipureintro; rw [after_9, runC_Vt, ldK_eq]; exact read_Vt _ _ _
  iexists _; isplitr; swap
  · unfold owns; iexists _; isplitr; swap; · iexact H10
    ipureintro; rfl
  ipureintro; rw [after_10, runC_Vsc, ldK_eq]; exact read_Vsc _ _ _

set_option maxHeartbeats 28800000 in
theorem sound_D (c : Dev nD) (t : Fin cfg0.N) (Y : (w : Fin cfg0.W) → (cfg0.win w).block.Idx → Elt F (cfg0.win w).elt) (hY : ∀ w, (rdat m c).Finds w t (Y w)) (h0 : ¬t.val % 5 = 0) (h1 : ¬t.val < 5) (h2 : t.val / 5 % 3 = 1) (h3 : ¬10 ≤ t.val) :
    bodyPre m c t Y ⊢ wp frame (wpE (defs₀ (F := F)) Variants.none c none) Set.univ (bodyAt0 t) (fun _ => bodyPost m c t Y) := by
  unfold bodyPre bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [show (rdat m c).Φ t.castSucc = PhiS m c t.val (Nat.le_of_lt t.isLt) from rfl]
  obtain ⟨n, hn⟩ : ∃ n, t.val = n + 1 := ⟨t.val - 1, by omega⟩
  rw [PhiS_prev m c t h0]
  rw [finds_7 m c t h0 (Y 7) (hY 7)]
  rw [finds_8 m c t h0 (Y 8) (hY 8)]
  rw [finds_9 m c t h0 (Y 9) (hY 9)]
  rw [finds_10 m c t h0 (Y 10) (hY 10)]
  iintro ⟨⟨⟨HS0, HS1, HS2, HS3⟩, Hg⟩, Ho, H0, H1, H2, H3, H4, H5, H6, H7, H8, H9, H10⟩
  iapply ((runD c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (Y 4) (ktC (iblk m c 1 t)) (kscC (iblk m c 1 t)) (vtC (iblk m c 2 t)) (vscC (iblk m c 2 t)) (knC (iblk m c 1 t)) (kcolC (iblk m c 1 t)) (vcolC (iblk m c 2 t))).2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runD_Out, ldX_eq, ldPC_eq, ldU_eq]; exact read_Out _ _ _ _ _
  isplitl [H4]
  · iexists _; isplitr; swap
    · unfold owns; iexists _; isplitr; swap; · iexact H4
      ipureintro; rfl
    ipureintro; rw [after_4, runD_Osc, ldX_eq, ldPC_eq]
    exact oscRel_of t.val _ (Y 4) _ _ _ _ (by rw [k0_off2_eq, coords_1]; congr 1; omega)
  isplitl [H5]
  · iexists _; isplitr; swap
    · unfold owns; iexists _; isplitr; swap; · iexact H5
      ipureintro; rfl
    ipureintro; rw [after_5, runD_Qt, ldX_eq]; exact read_Qt _ _ _
  isplitl [H6]
  · iexists _; isplitr; swap
    · unfold owns; iexists _; isplitr; swap; · iexact H6
      ipureintro; rfl
    ipureintro; rw [after_6, runD_Qsc, ldX_eq]; exact read_Qsc _ _ _
  isplitl [H7]
  · iexists _; isplitr; swap
    · iexact H7
    ipureintro; rw [after_7]
  isplitl [H8]
  · iexists _; isplitr; swap
    · iexact H8
    ipureintro; rw [after_8]
  isplitl [H9]
  · iexists _; isplitr; swap
    · iexact H9
    ipureintro; rw [after_9]
  iexists _; isplitr; swap
  · iexact H10
  ipureintro; rw [after_10]

set_option maxHeartbeats 28800000 in
theorem sound_E (c : Dev nD) (t : Fin cfg0.N) (Y : (w : Fin cfg0.W) → (cfg0.win w).block.Idx → Elt F (cfg0.win w).elt) (hY : ∀ w, (rdat m c).Finds w t (Y w)) (h0 : t.val % 5 = 0) (h1 : ¬t.val < 5) (h2 : ¬t.val / 5 % 3 = 1) (h3 : 10 ≤ t.val) :
    bodyPre0 m c t Y ⊢ wp frame (wpE (defs₀ (F := F)) Variants.none c none) Set.univ (bodyAt0 t) (fun _ => bodyPost m c t Y) := by
  unfold bodyPre0 bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [PhiA0_eq]
  iintro ⟨⟨⟨HS0, HS1, HS2, HS3⟩, Hg⟩, Ho, H0, H1, H2, H3, H4, H5, H6, H7, H8, H9, H10⟩
  iapply ((runE c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (Y 4)).2.2.2.2.2.2.2.2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, HS3⟩
  isplitl [HS0 HS1 HS2 HS3 Hg]
  · isplitl [HS0 HS1 HS2 HS3]
    · isplitl [HS0]
      · unfold owns; iexists _; isplitr; swap; · iexact HS0
        ipureintro; rw [runE_Kn, ldK_eq]; exact read_Kn _ _ _
      isplitl [HS1]
      · unfold owns; iexists _; isplitr; swap; · iexact HS1
        ipureintro; rw [runE_Kcol, ldK_eq]; exact read_Kcol _ _ _
      isplitl [HS2]
      · unfold owns; iexists _; isplitr; swap; · iexact HS2
        ipureintro; rw [runE_Vcol, ldK_eq]; exact read_Vcol _ _ _
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runE_Out, ldX_eq, ldK_eq, ldK_eq, covP_eq, ldU_eq]; exact read_Out _ _ _ _ _
  isplitl [H4]
  · iexists _; isplitr; swap
    · unfold owns; iexists _; isplitr; swap; · iexact H4
      ipureintro; rfl
    ipureintro; rw [after_4, runE_Osc, ldX_eq, ldK_eq, ldK_eq, covP_eq]
    exact oscRel_of t.val _ (Y 4) _ _ _ _ (by rw [k0_off3_eq, coords_1]; congr 1; omega)
  isplitl [H5]
  · iexists _; isplitr; swap
    · unfold owns; iexists _; isplitr; swap; · iexact H5
      ipureintro; rfl
    ipureintro; rw [after_5, runE_Qt, ldX_eq]; exact read_Qt _ _ _
  isplitl [H6]
  · iexists _; isplitr; swap
    · unfold owns; iexists _; isplitr; swap; · iexact H6
      ipureintro; rfl
    ipureintro; rw [after_6, runE_Qsc, ldX_eq]; exact read_Qsc _ _ _
  isplitl [H7]
  · iexists _; isplitr; swap
    · unfold owns; iexists _; isplitr; swap; · iexact H7
      ipureintro; rfl
    ipureintro; rw [after_7, runE_Kt, ldK_eq]; exact read_Kt _ _ _
  isplitl [H8]
  · iexists _; isplitr; swap
    · unfold owns; iexists _; isplitr; swap; · iexact H8
      ipureintro; rfl
    ipureintro; rw [after_8, runE_Ksc, ldK_eq]; exact read_Ksc _ _ _
  isplitl [H9]
  · iexists _; isplitr; swap
    · unfold owns; iexists _; isplitr; swap; · iexact H9
      ipureintro; rfl
    ipureintro; rw [after_9, runE_Vt, ldK_eq]; exact read_Vt _ _ _
  iexists _; isplitr; swap
  · unfold owns; iexists _; isplitr; swap; · iexact H10
    ipureintro; rfl
  ipureintro; rw [after_10, runE_Vsc, ldK_eq]; exact read_Vsc _ _ _

set_option maxHeartbeats 28800000 in
theorem sound_F (c : Dev nD) (t : Fin cfg0.N) (Y : (w : Fin cfg0.W) → (cfg0.win w).block.Idx → Elt F (cfg0.win w).elt) (hY : ∀ w, (rdat m c).Finds w t (Y w)) (h0 : ¬t.val % 5 = 0) (h1 : ¬t.val < 5) (h2 : ¬t.val / 5 % 3 = 1) (h3 : 10 ≤ t.val) :
    bodyPre m c t Y ⊢ wp frame (wpE (defs₀ (F := F)) Variants.none c none) Set.univ (bodyAt0 t) (fun _ => bodyPost m c t Y) := by
  unfold bodyPre bodyPost bodyAt0
  have hN : t.val < 15 := lt_of_lt_of_eq t.isLt (show cfg0.N = 15 from N_0)
  rw [show (rdat m c).owesAt () t.succ = (rdat m c).owesAt () t.castSucc from rfl]
  rw [show (rdat m c).Φ t.succ = PhiS m c (t.val + 1) t.isLt from rfl, PhiS_succ]
  rw [finds_0 m c t (Y 0) (hY 0), finds_1 m c t (Y 1) (hY 1), finds_2 m c t (Y 2) (hY 2)]
  rw [show (rdat m c).Φ t.castSucc = PhiS m c t.val (Nat.le_of_lt t.isLt) from rfl]
  obtain ⟨n, hn⟩ : ∃ n, t.val = n + 1 := ⟨t.val - 1, by omega⟩
  rw [PhiS_prev m c t h0]
  rw [finds_7 m c t h0 (Y 7) (hY 7)]
  rw [finds_8 m c t h0 (Y 8) (hY 8)]
  rw [finds_9 m c t h0 (Y 9) (hY 9)]
  rw [finds_10 m c t h0 (Y 10) (hY 10)]
  iintro ⟨⟨⟨HS0, HS1, HS2, HS3⟩, Hg⟩, Ho, H0, H1, H2, H3, H4, H5, H6, H7, H8, H9, H10⟩
  iapply ((runF c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (Y 4) (ktC (iblk m c 1 t)) (kscC (iblk m c 1 t)) (vtC (iblk m c 2 t)) (vscC (iblk m c 2 t)) (knC (iblk m c 1 t)) (kcolC (iblk m c 1 t)) (vcolC (iblk m c 2 t))).2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, ⟨%e3, H3⟩, H4, ⟨%e5, H5⟩, ⟨%e6, H6⟩, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]
  · iexists _; isplitr; swap
    · iexact H0
    ipureintro; rw [after_0]
  isplitl [H1]
  · iexists _; isplitr; swap
    · iexact H1
    ipureintro; rw [after_1]
  isplitl [H2]
  · iexists _; isplitr; swap
    · iexact H2
    ipureintro; rw [after_2]
  isplitl [H3]
  · iexists _; isplitr; swap
    · unfold owns; iexists _; isplitr; swap; · iexact H3
      ipureintro; rfl
    ipureintro; rw [after_3, runF_Out, ldX_eq, ldPC_eq, ldU_eq]; exact read_Out _ _ _ _ _
  isplitl [H4]
  · iexists _; isplitr; swap
    · unfold owns; iexists _; isplitr; swap; · iexact H4
      ipureintro; rfl
    ipureintro; rw [after_4, runF_Osc, ldX_eq, ldPC_eq]
    exact oscRel_of t.val _ (Y 4) _ _ _ _ (by rw [k0_off3_eq, coords_1]; congr 1; omega)
  isplitl [H5]
  · iexists _; isplitr; swap
    · unfold owns; iexists _; isplitr; swap; · iexact H5
      ipureintro; rfl
    ipureintro; rw [after_5, runF_Qt, ldX_eq]; exact read_Qt _ _ _
  isplitl [H6]
  · iexists _; isplitr; swap
    · unfold owns; iexists _; isplitr; swap; · iexact H6
      ipureintro; rfl
    ipureintro; rw [after_6, runF_Qsc, ldX_eq]; exact read_Qsc _ _ _
  isplitl [H7]
  · iexists _; isplitr; swap
    · iexact H7
    ipureintro; rw [after_7]
  isplitl [H8]
  · iexists _; isplitr; swap
    · iexact H8
    ipureintro; rw [after_8]
  isplitl [H9]
  · iexists _; isplitr; swap
    · iexact H9
    ipureintro; rw [after_9]
  iexists _; isplitr; swap
  · iexact H10
  ipureintro; rw [after_10]

/-- The body's triple at a point. -/
theorem sound_body (c : Dev nD) (t : Fin cfg0.N) (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  have hN : t.val < 15 := lt_of_lt_of_eq t.isLt (show cfg0.N = 15 from N_0)
  by_cases h0 : t.val % 5 = 0
  · skip
    by_cases h1 : t.val < 5
    · skip
      by_cases h2 : t.val / 5 % 3 = 1
      · skip
        exfalso; omega
      · skip
        by_cases h3 : 10 ≤ t.val
        · skip
          exfalso; omega
        · skip
          exact (bodyPre_forget m c t Y).trans (sound_A m c t Y hY h0 h1 h2 h3)
    · skip
      by_cases h2 : t.val / 5 % 3 = 1
      · skip
        by_cases h3 : 10 ≤ t.val
        · skip
          exfalso; omega
        · skip
          exact (bodyPre_forget m c t Y).trans (sound_C m c t Y hY h0 h1 h2 h3)
      · skip
        by_cases h3 : 10 ≤ t.val
        · skip
          exact (bodyPre_forget m c t Y).trans (sound_E m c t Y hY h0 h1 h2 h3)
        · skip
          exfalso; omega
  · skip
    by_cases h1 : t.val < 5
    · skip
      by_cases h2 : t.val / 5 % 3 = 1
      · skip
        exfalso; omega
      · skip
        by_cases h3 : 10 ≤ t.val
        · skip
          exfalso; omega
        · skip
          exact sound_B m c t Y hY h0 h1 h2 h3
    · skip
      by_cases h2 : t.val / 5 % 3 = 1
      · skip
        by_cases h3 : 10 ≤ t.val
        · skip
          exfalso; omega
        · skip
          exact sound_D m c t Y hY h0 h1 h2 h3
      · skip
        by_cases h3 : 10 ≤ t.val
        · skip
          exact sound_F m c t Y hY h0 h1 h2 h3
        · skip
          exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl]
  exact PhiS_forget m c _ _

set_option backward.isDefEq.respectTransparency.types false in
/-- The run: it terminates with every array as the proof data says and no semaphore raised. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c w => (rdat m c).share_full (fun _ => rfl) w)
    (howed := fun _ _ => rfl) (V := V m) (hmain := hmain m Variants.none) (hA := A_eq m)
    (hin := fun _ => .rfl) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main_quiescent m ρ)

end Cert.KernelIdeal.Hand

end

end
-- ==== Proof.KiResults.lean ====
/- The results of the run over the reals: each result's array is the array that the model names. -/
module

public import proofs.«01_k».proof.Proof.KiBlocks
public import proofs.«01_k».proof.Proof.KiFrame
public import Idealize.ShloMosaic.Lib.Pipeline.ArrRel
public import Idealize.ShloMosaic.Lib.Pipeline.ValueKit.Geometry

@[expose] public section

set_option maxRecDepth 16384

noncomputable section

namespace Cert.KernelIdeal.Hand

open Cert.KernelIdeal Cert.KernelIdeal.Gen Cert.Model
open Idealize.ShloMosaic Idealize.ShloMosaic.TcCoe
open Idealize.SL Idealize.SL.RA Idealize.SL.Sem
open Idealize.ShloMosaic.Pipeline (Dat RDat Cfg Window cellOf)

variable (m : (ℓ : Loc nD τ sig) → Buf (Elt Ideal) ℓ) (ρ : Dev nD → PrngReg)

theorem ix_0 : ∀ t : Fin cfg0.N, win0_0.index t = ![t.val / 5, t.val % 5, 0] := (by decide +kernel : ∀ t : Fin grid0.N, win0_0.index t = ![t.val / 5, t.val % 5, 0])
theorem ix_1 : ∀ t : Fin cfg0.N, win0_1.index t = ![t.val / 5, 0, 0] := (by decide +kernel : ∀ t : Fin grid0.N, win0_1.index t = ![t.val / 5, 0, 0])
theorem ix_2 : ∀ t : Fin cfg0.N, win0_2.index t = ![t.val / 5, 0, 0] := (by decide +kernel : ∀ t : Fin grid0.N, win0_2.index t = ![t.val / 5, 0, 0])
theorem ix_3 : ∀ t : Fin cfg0.N, win0_3.index t = ![t.val / 5, t.val % 5, 0] := (by decide +kernel : ∀ t : Fin grid0.N, win0_3.index t = ![t.val / 5, t.val % 5, 0])
theorem ix_5 : ∀ t : Fin cfg0.N, win0_5.index t = ![t.val / 5, 0, t.val % 5] := (by decide +kernel : ∀ t : Fin grid0.N, win0_5.index t = ![t.val / 5, 0, t.val % 5])
theorem ix_6 : ∀ t : Fin cfg0.N, win0_6.index t = ![t.val / 5, 0, t.val % 5] := (by decide +kernel : ∀ t : Fin grid0.N, win0_6.index t = ![t.val / 5, 0, t.val % 5])
theorem ix_7 : ∀ t : Fin cfg0.N, win0_7.index t = ![t.val / 5, 0, 0] := (by decide +kernel : ∀ t : Fin grid0.N, win0_7.index t = ![t.val / 5, 0, 0])
theorem ix_8 : ∀ t : Fin cfg0.N, win0_8.index t = ![t.val / 5, 0, 0] := (by decide +kernel : ∀ t : Fin grid0.N, win0_8.index t = ![t.val / 5, 0, 0])
theorem ix_9 : ∀ t : Fin cfg0.N, win0_9.index t = ![t.val / 5, 0, 0] := (by decide +kernel : ∀ t : Fin grid0.N, win0_9.index t = ![t.val / 5, 0, 0])
theorem ix_10 : ∀ t : Fin cfg0.N, win0_10.index t = ![t.val / 5, 0, 0] := (by decide +kernel : ∀ t : Fin grid0.N, win0_10.index t = ![t.val / 5, 0, 0])

/-- The arguments of core `c`, over the reals. -/
abbrev aX (c : Dev nD) : ℕ → ℕ → ℕ → ℝ := rd3 (p := 3) (q := 640) (r := 2560) (m ((c.tc : Thread nD τ).loc main_arg0))
abbrev aK (c : Dev nD) : ℕ → ℕ → ℕ → ℝ := rd3 (p := 3) (q := 640) (r := 512) (m ((c.tc : Thread nD τ).loc main_arg1))
abbrev aV (c : Dev nD) : ℕ → ℕ → ℕ → ℝ := rd3 (p := 3) (q := 640) (r := 512) (m ((c.tc : Thread nD τ).loc main_arg2))

/-- Every entry of the arguments of core `c` is a number. -/
structure Fin3 (c : Dev nD) : Prop where
  x : Bounded (s := ⟨3, ![3, 640, 2560]⟩) (m ((c.tc : Thread nD τ).loc main_arg0))
  k : Bounded (s := ⟨3, ![3, 640, 512]⟩) (m ((c.tc : Thread nD τ).loc main_arg1))
  v : Bounded (s := ⟨3, ![3, 640, 512]⟩) (m ((c.tc : Thread nD τ).loc main_arg2))

section Core

variable (c : Dev nD) (hf : Fin3 m c)
include hf

theorem iblk0_apply (t : Fin cfg0.N) (y : S1x128x2560.Idx) :
    iblk m c 0 t y = ((aX m c (t.val / 5) (128 * (t.val % 5) + (y 1).val) (y 2).val : ℝ) : EReal) := by
  refine (rd3_apply hf.x (((cfg0.win 0).blk t).view.emb y)).trans ?_
  have e0 : ((((cfg0.win 0).blk t).view.emb y 0 : Fin _) : ℕ) = t.val / 5 := by
    blk_simp [ix_0]
  have e1 : ((((cfg0.win 0).blk t).view.emb y 1 : Fin _) : ℕ) = 128 * (t.val % 5) + (y 1).val := by
    blk_simp [ix_0]; omega
  have e2 : ((((cfg0.win 0).blk t).view.emb y 2 : Fin _) : ℕ) = (y 2).val := by
    blk_simp [ix_0]
  exact congrArg (fun z : ℝ => (z : EReal)) (congr (congr (congrArg (aX m c) e0) e1) e2)

theorem iblk1_apply (t : Fin cfg0.N) (y : S1x640x512.Idx) :
    iblk m c 1 t y = ((aK m c (t.val / 5) (y 1).val (y 2).val : ℝ) : EReal) := by
  refine (rd3_apply hf.k (((cfg0.win 1).blk t).view.emb y)).trans ?_
  have e0 : ((((cfg0.win 1).blk t).view.emb y 0 : Fin _) : ℕ) = t.val / 5 := by
    blk_simp [ix_1]
  have e1 : ((((cfg0.win 1).blk t).view.emb y 1 : Fin _) : ℕ) = (y 1).val := by
    blk_simp [ix_1]
  have e2 : ((((cfg0.win 1).blk t).view.emb y 2 : Fin _) : ℕ) = (y 2).val := by
    blk_simp [ix_1]
  exact congrArg (fun z : ℝ => (z : EReal)) (congr (congr (congrArg (aK m c) e0) e1) e2)

theorem iblk2_apply (t : Fin cfg0.N) (y : S1x640x512.Idx) :
    iblk m c 2 t y = ((aV m c (t.val / 5) (y 1).val (y 2).val : ℝ) : EReal) := by
  refine (rd3_apply hf.v (((cfg0.win 2).blk t).view.emb y)).trans ?_
  have e0 : ((((cfg0.win 2).blk t).view.emb y 0 : Fin _) : ℕ) = t.val / 5 := by
    blk_simp [ix_2]
  have e1 : ((((cfg0.win 2).blk t).view.emb y 1 : Fin _) : ℕ) = (y 1).val := by
    blk_simp [ix_2]
  have e2 : ((((cfg0.win 2).blk t).view.emb y 2 : Fin _) : ℕ) = (y 2).val := by
    blk_simp [ix_2]
  exact congrArg (fun z : ℝ => (z : EReal)) (congr (congr (congrArg (aV m c) e0) e1) e2)

variable (after : (w' : Fin cfg0.W) → Fin cfg0.N → (cfg0.win w').block.Idx → Elt Ideal (cfg0.win w').elt)
variable (hL : ∀ (w : Fin cfg0.W) (u : Fin cfg0.N), (cfg0.win w).flush u = true → (rdat m c).Leaves w u (after w u))
include hL

theorem final_3 : ((rdat m c).withAfter after).arrAt 3 cfg0.N = gOut (aX m c) (aK m c) (aV m c) := by
  refine ((rdat m c).withAfter after).arrAt_eq_of_covers 3 _ (by decide +kernel) fun t ht y => ?_
  blk_simp
  obtain ⟨Y, -, hA⟩ := hL 3 t ht
  rw [after_3] at hA
  rw [RDat.withAfter_after, hA]
  have e0 : ((((cfg0.win 3).blk t).view.emb y 0 : Fin _) : ℕ) = t.val / 5 := by
    blk_simp [ix_3]
  have e1 : ((((cfg0.win 3).blk t).view.emb y 1 : Fin _) : ℕ) = 128 * (t.val % 5) + (y 1).val := by
    blk_simp [ix_3]; omega
  have e2 : ((((cfg0.win 3).blk t).view.emb y 2 : Fin _) : ℕ) = (y 2).val := by
    blk_simp [ix_3]
  exact (outC_apply (aX m c) (aK m c) (aV m c) (t.val / 5) (128 * (t.val % 5)) (rd3_le hf.x) (rd3_le hf.k) (rd3_le hf.v) _ _ _ (iblk0_apply m c hf t) (iblk1_apply m c hf t) (iblk2_apply m c hf t) y).trans (gOut_eq (aX m c) (aK m c) (aV m c) (((cfg0.win 3).blk t).view.emb y) e0 e1 e2 (y 2).isLt).symm

theorem final_5 : ((rdat m c).withAfter after).arrAt 5 cfg0.N = gQt (aX m c) := by
  refine ((rdat m c).withAfter after).arrAt_eq_of_covers 5 _ (by decide +kernel) fun t ht y => ?_
  blk_simp
  obtain ⟨Y, -, hA⟩ := hL 5 t ht
  rw [after_5] at hA
  rw [RDat.withAfter_after, hA]
  have e0 : ((((cfg0.win 5).blk t).view.emb y 0 : Fin _) : ℕ) = t.val / 5 := by
    blk_simp [ix_5]
  have e1 : ((((cfg0.win 5).blk t).view.emb y 1 : Fin _) : ℕ) = (y 1).val := by
    blk_simp [ix_5]
  have e2 : ((((cfg0.win 5).blk t).view.emb y 2 : Fin _) : ℕ) = 128 * (t.val % 5) + (y 2).val := by
    blk_simp [ix_5]; omega
  exact (qtC_apply (aX m c) (t.val / 5) (128 * (t.val % 5)) (rd3_le hf.x) _ (iblk0_apply m c hf t) y).trans (gQt_eq (aX m c) (((cfg0.win 5).blk t).view.emb y) e0 e1 e2 _).symm

theorem final_6 : ((rdat m c).withAfter after).arrAt 6 cfg0.N = gQsc (aX m c) := by
  refine ((rdat m c).withAfter after).arrAt_eq_of_covers 6 _ (by decide +kernel) fun t ht y => ?_
  blk_simp
  obtain ⟨Y, -, hA⟩ := hL 6 t ht
  rw [after_6] at hA
  rw [RDat.withAfter_after, hA]
  have e0 : ((((cfg0.win 6).blk t).view.emb y 0 : Fin _) : ℕ) = t.val / 5 := by
    blk_simp [ix_6]
  have e1 : ((((cfg0.win 6).blk t).view.emb y 1 : Fin _) : ℕ) = (y 1).val := by
    blk_simp [ix_6]
  have e2 : ((((cfg0.win 6).blk t).view.emb y 2 : Fin _) : ℕ) = 128 * (t.val % 5) + (y 2).val := by
    blk_simp [ix_6]; omega
  exact (qscC_apply (aX m c) (t.val / 5) (128 * (t.val % 5)) (rd3_le hf.x) _ (iblk0_apply m c hf t) y).trans (gQsc_eq (aX m c) (((cfg0.win 6).blk t).view.emb y) e0 e1 e2).symm

theorem final_7 : ((rdat m c).withAfter after).arrAt 7 cfg0.N = gQt (aK m c) := by
  refine ((rdat m c).withAfter after).arrAt_eq_of_covers 7 _ (by decide +kernel) fun t ht y => ?_
  blk_simp
  obtain ⟨Y, -, hA⟩ := hL 7 t ht
  rw [after_7] at hA
  rw [RDat.withAfter_after, hA]
  have e0 : ((((cfg0.win 7).blk t).view.emb y 0 : Fin _) : ℕ) = t.val / 5 := by
    blk_simp [ix_7]
  have e1 : ((((cfg0.win 7).blk t).view.emb y 1 : Fin _) : ℕ) = (y 1).val := by
    blk_simp [ix_7]
  have e2 : ((((cfg0.win 7).blk t).view.emb y 2 : Fin _) : ℕ) = (y 2).val := by
    blk_simp [ix_7]
  exact (ktC_apply (aK m c) (t.val / 5) (rd3_le hf.k) _ (iblk1_apply m c hf t) y).trans (gQt_eq (aK m c) (((cfg0.win 7).blk t).view.emb y) e0 e1 e2 _).symm

theorem final_8 : ((rdat m c).withAfter after).arrAt 8 cfg0.N = gQsc (aK m c) := by
  refine ((rdat m c).withAfter after).arrAt_eq_of_covers 8 _ (by decide +kernel) fun t ht y => ?_
  blk_simp
  obtain ⟨Y, -, hA⟩ := hL 8 t ht
  rw [after_8] at hA
  rw [RDat.withAfter_after, hA]
  have e0 : ((((cfg0.win 8).blk t).view.emb y 0 : Fin _) : ℕ) = t.val / 5 := by
    blk_simp [ix_8]
  have e1 : ((((cfg0.win 8).blk t).view.emb y 1 : Fin _) : ℕ) = (y 1).val := by
    blk_simp [ix_8]
  have e2 : ((((cfg0.win 8).blk t).view.emb y 2 : Fin _) : ℕ) = (y 2).val := by
    blk_simp [ix_8]
  exact (kscC_apply (aK m c) (t.val / 5) (rd3_le hf.k) _ (iblk1_apply m c hf t) y).trans (gQsc_eq (aK m c) (((cfg0.win 8).blk t).view.emb y) e0 e1 e2).symm

theorem final_9 : ((rdat m c).withAfter after).arrAt 9 cfg0.N = gVt (aV m c) := by
  refine ((rdat m c).withAfter after).arrAt_eq_of_covers 9 _ (by decide +kernel) fun t ht y => ?_
  blk_simp
  obtain ⟨Y, -, hA⟩ := hL 9 t ht
  rw [after_9] at hA
  rw [RDat.withAfter_after, hA]
  have e0 : ((((cfg0.win 9).blk t).view.emb y 0 : Fin _) : ℕ) = t.val / 5 := by
    blk_simp [ix_9]
  have e1 : ((((cfg0.win 9).blk t).view.emb y 1 : Fin _) : ℕ) = (y 1).val := by
    blk_simp [ix_9]
  have e2 : ((((cfg0.win 9).blk t).view.emb y 2 : Fin _) : ℕ) = (y 2).val := by
    blk_simp [ix_9]
  exact (vtC_apply (aV m c) (t.val / 5) (rd3_le hf.v) _ (iblk2_apply m c hf t) y).trans (gVt_eq (aV m c) (((cfg0.win 9).blk t).view.emb y) e0 e1 e2 (y 2).isLt).symm

theorem final_10 : ((rdat m c).withAfter after).arrAt 10 cfg0.N = gVsc (aV m c) := by
  refine ((rdat m c).withAfter after).arrAt_eq_of_covers 10 _ (by decide +kernel) fun t ht y => ?_
  blk_simp
  obtain ⟨Y, -, hA⟩ := hL 10 t ht
  rw [after_10] at hA
  rw [RDat.withAfter_after, hA]
  have e0 : ((((cfg0.win 10).blk t).view.emb y 0 : Fin _) : ℕ) = t.val / 5 := by
    blk_simp [ix_10]
  have e1 : ((((cfg0.win 10).blk t).view.emb y 1 : Fin _) : ℕ) = (y 1).val := by
    blk_simp [ix_10]
  have e2 : ((((cfg0.win 10).blk t).view.emb y 2 : Fin _) : ℕ) = (y 2).val := by
    blk_simp [ix_10]
  exact (vscC_apply (aV m c) (t.val / 5) (rd3_le hf.v) _ (iblk2_apply m c hf t) y).trans (gVsc_eq (aV m c) (((cfg0.win 10).blk t).view.emb y) e0 e1 e2).symm

omit hL in
/-- The plane of output scales after point `n` holds every entry that a point up to `n` computes. -/
theorem osc_upto (n : ℕ) (hn : n < cfg0.N) (X) (h : (rdat m c).Leaves 4 ⟨n, hn⟩ X) (r : Fin 3) (s : Fin 640)
    (hr : r.val < n / 5 ∨ r.val = n / 5 ∧ s.val / 128 ≤ n % 5) :
    X (ValueIdx.ix2 r s) = ((qsc (oF (aX m c) (aK m c) (aV m c) r.val s.val) : ℝ) : EReal) := by
  have hN : n < 15 := hn
  induction n generalizing X with
  | zero =>
    obtain ⟨Y, -, hA⟩ := h
    rw [after_4] at hA
    have hrs : r.val = 0 / 5 ∧ s.val / 128 = 0 % 5 := by omega
    refine (hA r s).trans ((if_pos hrs).trans ?_)
    rw [← ix2_eq_valueIdx, oscV_apply (aX m c) (aK m c) (aV m c) (0 / 5) (128 * (0 % 5)) (rd3_le hf.x) (rd3_le hf.k) (rd3_le hf.v) _ _ _
      (iblk0_apply m c hf ⟨0, hn⟩) (iblk1_apply m c hf ⟨0, hn⟩) (iblk2_apply m c hf ⟨0, hn⟩)]
    have e : 128 * (0 % 5) + s.val % 128 = s.val := by omega
    show ((qsc (oF (aX m c) (aK m c) (aV m c) (0 / 5) (128 * (0 % 5) + s.val % 128)) : ℝ) : EReal) = _
    rw [e, ← hrs.1]
  | succ n ih =>
    obtain ⟨Y, hY, hA⟩ := h
    rw [after_4] at hA
    by_cases hrs : r.val = (n + 1) / 5 ∧ s.val / 128 = (n + 1) % 5
    · refine (hA r s).trans ((if_pos hrs).trans ?_)
      rw [← ix2_eq_valueIdx, oscV_apply (aX m c) (aK m c) (aV m c) ((n + 1) / 5) (128 * ((n + 1) % 5)) (rd3_le hf.x) (rd3_le hf.k) (rd3_le hf.v) _ _ _
        (iblk0_apply m c hf ⟨n + 1, hn⟩) (iblk1_apply m c hf ⟨n + 1, hn⟩) (iblk2_apply m c hf ⟨n + 1, hn⟩)]
      have e : 128 * ((n + 1) % 5) + s.val % 128 = s.val := by omega
      show ((qsc (oF (aX m c) (aK m c) (aV m c) ((n + 1) / 5) (128 * ((n + 1) % 5) + s.val % 128)) : ℝ) : EReal) = _
      rw [e, ← hrs.1]
    · refine (hA r s).trans ((if_neg hrs).trans ?_)
      have hfe : (cfg0.win 4).fetch ⟨n + 1, hn⟩ = false := by unfold Pipeline.Window.fetch; rw [show (cfg0.win 4).isOut = true from rfl]; rfl
      rcases ((rdat m c).finds_of_pos hfe (Nat.succ_ne_zero n) Y).mp hY with hfl | ⟨Y', hF, hR⟩
      · have := (flush0_4 _).mp hfl
        simp at this
        omega
      · exact ih (by omega) Y ⟨Y', hF, hR⟩ (by omega) (by omega)

theorem final_4 : ((rdat m c).withAfter after).arrAt 4 cfg0.N = gOsc (aX m c) (aK m c) (aV m c) := by
  refine ((rdat m c).withAfter after).arrAt_eq_of_after_last 4 ⟨14, by decide⟩ (by decide +kernel) _ fun j => ?_
  blk_simp
  rw [RDat.withAfter_after]
  have h := osc_upto m c hf 14 (by decide) _ (hL 4 ⟨14, by decide⟩ (by decide +kernel)) ⟨(j 0).val, (j 0).isLt⟩ ⟨(j 1).val, (j 1).isLt⟩ (by
    have h0 : (j 0).val < 3 := (j 0).isLt
    have h1 : (j 1).val < 640 := (j 1).isLt
    show (j 0).val < 14 / 5 ∨ (j 0).val = 14 / 5 ∧ (j 1).val / 128 ≤ 14 % 5
    omega)
  refine Eq.trans (congrArg _ ?_) (h.trans (gOsc_eq _ _ _ _ rfl rfl).symm)
  funext a
  match a with
  | ⟨0, _⟩ => rfl
  | ⟨1, _⟩ => rfl

end Core

/-- The run: each result is the model's, the arguments are as they were, no semaphore is raised. -/
theorem run_results (hf : ∀ c, Fin3 m c) : θ_run defs (onTc (τ := τ) (main (F := Ideal))) ⟨m, fun _ => 0, ρ⟩ (fun r => (∀ c : Dev nD,
      (r.2.mem ((c.tc : Thread nD τ).loc main_v0_0) = gOut (aX m c) (aK m c) (aV m c)
      ∧ r.2.mem ((c.tc : Thread nD τ).loc main_v0_1) = gOsc (aX m c) (aK m c) (aV m c)
      ∧ r.2.mem ((c.tc : Thread nD τ).loc main_v0_2) = gQt (aX m c)
      ∧ r.2.mem ((c.tc : Thread nD τ).loc main_v0_3) = gQsc (aX m c)
      ∧ r.2.mem ((c.tc : Thread nD τ).loc main_v0_4) = gQt (aK m c)
      ∧ r.2.mem ((c.tc : Thread nD τ).loc main_v0_5) = gQsc (aK m c)
      ∧ r.2.mem ((c.tc : Thread nD τ).loc main_v0_6) = gVt (aV m c)
      ∧ r.2.mem ((c.tc : Thread nD τ).loc main_v0_7) = gVsc (aV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => by
    obtain ⟨after, hL, hA⟩ := Pipeline.RDat.FramePost.exists_exact h.1 c
    exact ⟨⟨(hA 3).trans (final_3 m c (hf c) after hL), (hA 4).trans (final_4 m c (hf c) after hL), (hA 5).trans (final_5 m c (hf c) after hL),
      (hA 6).trans (final_6 m c (hf c) after hL), (hA 7).trans (final_7 m c (hf c) after hL), (hA 8).trans (final_8 m c (hf c) after hL),
      (hA 9).trans (final_9 m c (hf c) after hL), (hA 10).trans (final_10 m c (hf c) after hL)⟩,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main_quiescent m ρ)

end Cert.KernelIdeal.Hand

end

end
-- ==== Proof.RefQuant.lean ====
/- The reference's quantisers read over the reals: the scale and the codes of the queries, the keys and the values. -/
module

public import proofs.«01_k».proof.Proof.Gen.ReferenceIdeal.Read
public import proofs.«01_k».proof.Proof.ModelAttn
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Model
open Idealize.ShloMosaic Idealize.ShloMosaic.TcCoe

/-! ## One number -/

/-- The exponent that the reference takes of a largest absolute value, as it is written there, -/
def rE (a : EReal) : EReal :=
  Scalar.select (Ideal.cmp .oeq a (Ideal.ofBits .f32 0x00000000#32)) (Ideal.ofBits .f32 0x00000000#32)
    (max (Ideal.liftRound Int.floor (Ideal.div (Ideal.log (a * Ideal.ofBits .f32 0x3B124925#32)) (Ideal.log (Ideal.ofBits .f32 0x40000000#32)))
        + Ideal.ofBits .f32 0x3F800000#32) (Ideal.ofBits .f32 0xC2FC0000#32))
/-- a power of two, -/
def rP (e : EReal) : EReal := Ideal.pow (Ideal.ofBits .f32 0x40000000#32) e
/-- and a code. -/
def rC (x e : EReal) : EReal :=
  min (max (x * rP (-e)) (Ideal.ofBits .f32 0xC3E00000#32)) (Ideal.ofBits .f32 0x43E00000#32)

theorem rE_coe {r : ℝ} (h : 0 ≤ r) : rE (r : EReal) = (((eQ (r * c448) : ℤ) : ℝ) : EReal) := by
  unfold rE
  rw [Ideal.ofBits_zero_f32, ofBits_c448, ofBits_two, Ideal.ofBits_one_f32, ofBits_n126]
  rcases h.eq_or_lt with h0 | h0
  · subst h0
    have e : Ideal.cmp .oeq ((0 : ℝ) : EReal) 0 = 1#1 := by simp [Ideal.cmp]
    rw [e]
    show (0 : EReal) = _
    simp [eQ]
  · have e : Ideal.cmp .oeq ((r : ℝ) : EReal) 0 = 0#1 := by
      have : ¬ ((r : EReal) = 0) := by rw [← EReal.coe_zero, EReal.coe_eq_coe_iff]; exact h0.ne'
      simp [Ideal.cmp, this]
    have hq : 0 < r * c448 := mul_pos h0 c448_pos
    have h2 : Real.log 2 ≠ 0 := (Real.log_pos (by norm_num)).ne'
    rw [e, ← EReal.coe_mul, Ideal.log_coe, Ideal.log_coe, if_neg (not_le.2 hq), if_neg (by norm_num : ¬ (2 : ℝ) ≤ 0),
      Ideal.div_coe h2, ← EReal.coe_mul, Ideal.liftRound_coe]
    show max (((⌊Real.log (r * c448) * (1 / Real.log 2)⌋ : ℝ) : EReal) + ((1 : ℝ) : EReal)) ((-126 : ℝ) : EReal) = _
    rw [← EReal.coe_add, ← coe_max, mul_one_div]
    unfold eQ
    rw [if_neg hq.ne']
    push_cast
    rfl

theorem rP_coe (e : ℤ) : rP (((e : ℤ) : ℝ) : EReal) = (((2 : ℝ) ^ e : ℝ) : EReal) := by
  unfold rP
  rw [ofBits_two, Ideal.pow_coe_coe]
  show ((((2 : ℝ) ^ ((e : ℤ) : ℝ)) : ℝ) : EReal) = _
  rw [Real.rpow_intCast]

theorem rC_coe (x : ℝ) (e : ℤ) : rC (x : EReal) (((e : ℤ) : ℝ) : EReal) = ((code x e : ℝ) : EReal) := by
  unfold rC
  have h : (-(((e : ℤ) : ℝ) : EReal)) = ((((-e : ℤ)) : ℝ) : EReal) := by rw [← EReal.coe_neg]; push_cast; rfl
  rw [h, rP_coe, ofBits_448, ofBits_n448, ← EReal.coe_mul, ← coe_max, ← coe_min]
  unfold code
  rw [min_comm, max_comm]

/-! ## The queries -/

theorem q_e (x0 : (⟨S3x640x2560, .bf16⟩ : BufTy).Contents (Elt Ideal)) (i : S3x640x40x1.Idx) :
    val_main_v19 (F := Ideal) x0 i = rE (val_main_v4 (F := Ideal) x0 i) := by
  rw [val_main_v19_apply, val_main_v15_apply, val_main_v14_apply, val_main_v16_apply, val_main_v18_apply, val_main_v17_apply, val_main_v13_apply, val_main_v12_apply, val_main_v11_apply, val_main_v10_apply, val_main_v9_apply, val_main_v8_apply,
    val_main_v7_apply, val_main_v6_apply, val_main_v5_apply, val_main_cst_0_apply, val_main_cst_1_apply, val_main_cst_2_apply, val_main_cst_3_apply, val_main_cst_4_apply, val_main_cst_5_apply]
  generalize val_main_v4 (F := Ideal) x0 i = y
  unfold rE
  simp only [Ideal.cmpf_def, Ideal.maximumf_def, Ideal.addf_def, Ideal.mulf_def, Ideal.hostDivf_def, Ideal.hostUnary_floor_def, Ideal.hostUnary_log_def, Ideal.ofBits_def]

section

variable {x0 : (⟨S3x640x2560, .bf16⟩ : BufTy).Contents (Elt Ideal)} (h : Bounded (s := ⟨3, ![3, 640, 2560]⟩) x0)
include h

theorem q_x (i : S3x640x40x64.Idx) {b s g d : ℕ} (h0 : (i 0).val = b) (h1 : (i 1).val = s) (h2 : (i 2).val = g) (h3 : (i 3).val = d) :
    val_main_v1 (F := Ideal) x0 i = ((rd3 (p := 3) (q := 640) (r := 2560) x0 b s (64 * g + d) : ℝ) : EReal) := by
  subst h0 h1 h2 h3
  show val_main_v0 (F := Ideal) x0 i = _
  rw [val_main_v0_apply]
  refine (rd3_apply (p := 3) (q := 640) (r := 2560) h _).trans (congrArg _ ?_)
  have l0 : (i 0).val < 3 := (i 0).isLt
  have l1 : (i 1).val < 640 := (i 1).isLt
  have l2 : (i 2).val < 40 := (i 2).isLt
  have l3 : (i 3).val < 64 := (i 3).isLt
  show rd3 (p := 3) (q := 640) (r := 2560) x0 (((((i 0).val * 640 + (i 1).val) * 40 + (i 2).val) * 64 + (i 3).val) / 1638400)
      (((((i 0).val * 640 + (i 1).val) * 40 + (i 2).val) * 64 + (i 3).val) / 2560 % 640)
      (((((i 0).val * 640 + (i 1).val) * 40 + (i 2).val) * 64 + (i 3).val) % 2560) = _
  congr 1 <;> omega

theorem q_a (j : S3x640x40.Idx) {b s g : ℕ} (h0 : (j 0).val = b) (h1 : (j 1).val = s) (h2 : (j 2).val = g) :
    val_main_v3 (F := Ideal) x0 j = ((amax (qf (rd3 (p := 3) (q := 640) (r := 2560) x0) b s g) : ℝ) : EReal) := by
  subst h0 h1 h2
  refine (Host.reduce_eq_fold _ _ _ _ _ _).trans ?_
  rw [Shape.ReducesTo.fold_fiber_r4_a3]
  show (Finset.univ : Finset (Fin 64)).fold max (Ideal.ofBits .f32 0xFF800000#32) _ = _
  rw [ofBits_ninf]
  refine fold_top _ _ fun k => ?_
  show max (val_main_v1 (F := Ideal) x0 _) (-(val_main_v1 (F := Ideal) x0 _)) = _
  rw [q_x h _ rfl rfl rfl rfl, coe_abs]
  rfl

theorem q_exp (i : S3x640x40x1.Idx) {b s g : ℕ} (h0 : (i 0).val = b) (h1 : (i 1).val = s) (h2 : (i 2).val = g) :
    val_main_v19 (F := Ideal) x0 i = (((qe (qf (rd3 (p := 3) (q := 640) (r := 2560) x0) b s g) : ℤ) : ℝ) : EReal) := by
  rw [q_e, val_main_v4_apply, q_a h _ h0 h1 h2, rE_coe (amax_nonneg _)]
  rfl

/-- The scale, -/
theorem q_scale (j : S3x640x40.Idx) {b s g : ℕ} (h0 : (j 0).val = b) (h1 : (j 1).val = s) (h2 : (j 2).val = g) :
    val_main_v31 (F := Ideal) x0 j = ((qsc (qf (rd3 (p := 3) (q := 640) (r := 2560) x0) b s g) : ℝ) : EReal) := by
  subst h0 h1 h2
  have l0 : (j 0).val < 3 := (j 0).isLt
  have l1 : (j 1).val < 640 := (j 1).isLt
  have l2 : (j 2).val < 40 := (j 2).isLt
  rw [val_main_v31_apply, val_main_v30_apply, val_main_v29_apply, val_main_cst_9_apply, q_exp h _ (b := (j 0).val) (s := (j 1).val) (g := (j 2).val)
    (by show (((j 0).val * 640 + (j 1).val) * 40 + (j 2).val) / 25600 = _; omega)
    (by show (((j 0).val * 640 + (j 1).val) * 40 + (j 2).val) / 40 % 640 = _; omega)
    (by show (((j 0).val * 640 + (j 1).val) * 40 + (j 2).val) / 1 % 40 = _; omega)]
  exact rP_coe _

/-- and the codes. -/
theorem q_codes (i : S3x640x40x64.Idx) {b s g d : ℕ} (h0 : (i 0).val = b) (h1 : (i 1).val = s) (h2 : (i 2).val = g) (h3 : (i 3).val = d) (hd : d < 64) :
    val_main_v28 (F := Ideal) x0 i = ((qcd (qf (rd3 (p := 3) (q := 640) (r := 2560) x0) b s g) ⟨d, hd⟩ : ℝ) : EReal) := by
  rw [val_main_v28_apply, val_main_v26_apply, val_main_v25_apply, val_main_v27_apply, val_main_v24_apply, val_main_v23_apply, val_main_v22_apply, val_main_v21_apply, val_main_v20_apply, val_main_cst_6_apply, val_main_cst_7_apply, val_main_cst_8_apply,
    q_x h _ h0 h1 h2 h3, q_exp h _ h0 h1 h2]
  exact rC_coe _ _

end

/-! ## The keys -/

theorem k_e (x1 : (⟨S3x640x512, .bf16⟩ : BufTy).Contents (Elt Ideal)) (i : S3x640x8x1.Idx) :
    val_main_v51 (F := Ideal) x1 i = rE (val_main_v36 (F := Ideal) x1 i) := by
  rw [val_main_v51_apply, val_main_v47_apply, val_main_v46_apply, val_main_v48_apply, val_main_v50_apply, val_main_v49_apply, val_main_v45_apply, val_main_v44_apply, val_main_v43_apply, val_main_v42_apply, val_main_v41_apply, val_main_v40_apply,
    val_main_v39_apply, val_main_v38_apply, val_main_v37_apply, val_main_cst_11_apply, val_main_cst_12_apply, val_main_cst_13_apply, val_main_cst_14_apply, val_main_cst_15_apply, val_main_cst_16_apply]
  generalize val_main_v36 (F := Ideal) x1 i = y
  unfold rE
  simp only [Ideal.cmpf_def, Ideal.maximumf_def, Ideal.addf_def, Ideal.mulf_def, Ideal.hostDivf_def, Ideal.hostUnary_floor_def, Ideal.hostUnary_log_def, Ideal.ofBits_def]

section

variable {x1 : (⟨S3x640x512, .bf16⟩ : BufTy).Contents (Elt Ideal)} (h : Bounded (s := ⟨3, ![3, 640, 512]⟩) x1)
include h

theorem k_x (i : S3x640x8x64.Idx) {b s g d : ℕ} (h0 : (i 0).val = b) (h1 : (i 1).val = s) (h2 : (i 2).val = g) (h3 : (i 3).val = d) :
    val_main_v33 (F := Ideal) x1 i = ((rd3 (p := 3) (q := 640) (r := 512) x1 b s (64 * g + d) : ℝ) : EReal) := by
  subst h0 h1 h2 h3
  show val_main_v32 (F := Ideal) x1 i = _
  rw [val_main_v32_apply]
  refine (rd3_apply (p := 3) (q := 640) (r := 512) h _).trans (congrArg _ ?_)
  have l0 : (i 0).val < 3 := (i 0).isLt
  have l1 : (i 1).val < 640 := (i 1).isLt
  have l2 : (i 2).val < 8 := (i 2).isLt
  have l3 : (i 3).val < 64 := (i 3).isLt
  show rd3 (p := 3) (q := 640) (r := 512) x1 (((((i 0).val * 640 + (i 1).val) * 8 + (i 2).val) * 64 + (i 3).val) / 327680)
      (((((i 0).val * 640 + (i 1).val) * 8 + (i 2).val) * 64 + (i 3).val) / 512 % 640)
      (((((i 0).val * 640 + (i 1).val) * 8 + (i 2).val) * 64 + (i 3).val) % 512) = _
  congr 1 <;> omega

theorem k_a (j : S3x640x8.Idx) {b s g : ℕ} (h0 : (j 0).val = b) (h1 : (j 1).val = s) (h2 : (j 2).val = g) :
    val_main_v35 (F := Ideal) x1 j = ((amax (qf (rd3 (p := 3) (q := 640) (r := 512) x1) b s g) : ℝ) : EReal) := by
  subst h0 h1 h2
  refine (Host.reduce_eq_fold _ _ _ _ _ _).trans ?_
  rw [Shape.ReducesTo.fold_fiber_r4_a3]
  show (Finset.univ : Finset (Fin 64)).fold max (Ideal.ofBits .f32 0xFF800000#32) _ = _
  rw [ofBits_ninf]
  refine fold_top _ _ fun k => ?_
  show max (val_main_v33 (F := Ideal) x1 _) (-(val_main_v33 (F := Ideal) x1 _)) = _
  rw [k_x h _ rfl rfl rfl rfl, coe_abs]
  rfl

theorem k_exp (i : S3x640x8x1.Idx) {b s g : ℕ} (h0 : (i 0).val = b) (h1 : (i 1).val = s) (h2 : (i 2).val = g) :
    val_main_v51 (F := Ideal) x1 i = (((qe (qf (rd3 (p := 3) (q := 640) (r := 512) x1) b s g) : ℤ) : ℝ) : EReal) := by
  rw [k_e, val_main_v36_apply, k_a h _ h0 h1 h2, rE_coe (amax_nonneg _)]
  rfl

/-- The scale, -/
theorem k_scale (j : S3x640x8.Idx) {b s g : ℕ} (h0 : (j 0).val = b) (h1 : (j 1).val = s) (h2 : (j 2).val = g) :
    val_main_v63 (F := Ideal) x1 j = ((qsc (qf (rd3 (p := 3) (q := 640) (r := 512) x1) b s g) : ℝ) : EReal) := by
  subst h0 h1 h2
  have l0 : (j 0).val < 3 := (j 0).isLt
  have l1 : (j 1).val < 640 := (j 1).isLt
  have l2 : (j 2).val < 8 := (j 2).isLt
  rw [val_main_v63_apply, val_main_v62_apply, val_main_v61_apply, val_main_cst_20_apply, k_exp h _ (b := (j 0).val) (s := (j 1).val) (g := (j 2).val)
    (by show (((j 0).val * 640 + (j 1).val) * 8 + (j 2).val) / 5120 = _; omega)
    (by show (((j 0).val * 640 + (j 1).val) * 8 + (j 2).val) / 8 % 640 = _; omega)
    (by show (((j 0).val * 640 + (j 1).val) * 8 + (j 2).val) / 1 % 8 = _; omega)]
  exact rP_coe _

/-- and the codes. -/
theorem k_codes (i : S3x640x8x64.Idx) {b s g d : ℕ} (h0 : (i 0).val = b) (h1 : (i 1).val = s) (h2 : (i 2).val = g) (h3 : (i 3).val = d) (hd : d < 64) :
    val_main_v60 (F := Ideal) x1 i = ((qcd (qf (rd3 (p := 3) (q := 640) (r := 512) x1) b s g) ⟨d, hd⟩ : ℝ) : EReal) := by
  rw [val_main_v60_apply, val_main_v58_apply, val_main_v57_apply, val_main_v59_apply, val_main_v56_apply, val_main_v55_apply, val_main_v54_apply, val_main_v53_apply, val_main_v52_apply, val_main_cst_17_apply, val_main_cst_18_apply, val_main_cst_19_apply,
    k_x h _ h0 h1 h2 h3, k_exp h _ h0 h1 h2]
  exact rC_coe _ _

end

/-! ## The values -/

theorem v_e (x2 : (⟨S3x640x512, .bf16⟩ : BufTy).Contents (Elt Ideal)) (i : S3x1x8x64.Idx) :
    val_main_v83 (F := Ideal) x2 i = rE (val_main_v68 (F := Ideal) x2 i) := by
  rw [val_main_v83_apply, val_main_v79_apply, val_main_v78_apply, val_main_v80_apply, val_main_v82_apply, val_main_v81_apply, val_main_v77_apply, val_main_v76_apply, val_main_v75_apply, val_main_v74_apply, val_main_v73_apply, val_main_v72_apply,
    val_main_v71_apply, val_main_v70_apply, val_main_v69_apply, val_main_cst_22_apply, val_main_cst_23_apply, val_main_cst_24_apply, val_main_cst_25_apply, val_main_cst_26_apply, val_main_cst_27_apply]
  generalize val_main_v68 (F := Ideal) x2 i = y
  unfold rE
  simp only [Ideal.cmpf_def, Ideal.maximumf_def, Ideal.addf_def, Ideal.mulf_def, Ideal.hostDivf_def, Ideal.hostUnary_floor_def, Ideal.hostUnary_log_def, Ideal.ofBits_def]

section

variable {x2 : (⟨S3x640x512, .bf16⟩ : BufTy).Contents (Elt Ideal)} (h : Bounded (s := ⟨3, ![3, 640, 512]⟩) x2)
include h

theorem v_x (i : S3x640x8x64.Idx) {b s g d : ℕ} (h0 : (i 0).val = b) (h1 : (i 1).val = s) (h2 : (i 2).val = g) (h3 : (i 3).val = d) :
    val_main_v65 (F := Ideal) x2 i = ((rd3 (p := 3) (q := 640) (r := 512) x2 b s (64 * g + d) : ℝ) : EReal) := by
  subst h0 h1 h2 h3
  show val_main_v64 (F := Ideal) x2 i = _
  rw [val_main_v64_apply]
  refine (rd3_apply (p := 3) (q := 640) (r := 512) h _).trans (congrArg _ ?_)
  have l0 : (i 0).val < 3 := (i 0).isLt
  have l1 : (i 1).val < 640 := (i 1).isLt
  have l2 : (i 2).val < 8 := (i 2).isLt
  have l3 : (i 3).val < 64 := (i 3).isLt
  show rd3 (p := 3) (q := 640) (r := 512) x2 (((((i 0).val * 640 + (i 1).val) * 8 + (i 2).val) * 64 + (i 3).val) / 327680)
      (((((i 0).val * 640 + (i 1).val) * 8 + (i 2).val) * 64 + (i 3).val) / 512 % 640)
      (((((i 0).val * 640 + (i 1).val) * 8 + (i 2).val) * 64 + (i 3).val) % 512) = _
  congr 1 <;> omega

theorem v_a (j : S3x8x64.Idx) {b g d : ℕ} (h0 : (j 0).val = b) (h1 : (j 1).val = g) (h2 : (j 2).val = d) :
    val_main_v67 (F := Ideal) x2 j = ((amax (vf (rd3 (p := 3) (q := 640) (r := 512) x2) b g d) : ℝ) : EReal) := by
  subst h0 h1 h2
  refine (Host.reduce_eq_fold _ _ _ _ _ _).trans ?_
  rw [Shape.ReducesTo.fold_fiber_r4_a1]
  show (Finset.univ : Finset (Fin 640)).fold max (Ideal.ofBits .f32 0xFF800000#32) _ = _
  rw [ofBits_ninf]
  refine fold_top _ _ fun k => ?_
  show max (val_main_v65 (F := Ideal) x2 _) (-(val_main_v65 (F := Ideal) x2 _)) = _
  rw [v_x h _ rfl rfl rfl rfl, coe_abs]
  rfl

theorem v_exp (i : S3x1x8x64.Idx) {b g d : ℕ} (h0 : (i 0).val = b) (h1 : (i 2).val = g) (h2 : (i 3).val = d) :
    val_main_v83 (F := Ideal) x2 i = (((qe (vf (rd3 (p := 3) (q := 640) (r := 512) x2) b g d) : ℤ) : ℝ) : EReal) := by
  rw [v_e, val_main_v68_apply, v_a h _ h0 h1 h2, rE_coe (amax_nonneg _)]
  rfl

/-- The scale, -/
theorem v_scale (j : S3x8x64.Idx) {b g d : ℕ} (h0 : (j 0).val = b) (h1 : (j 1).val = g) (h2 : (j 2).val = d) :
    val_main_v95 (F := Ideal) x2 j = ((qsc (vf (rd3 (p := 3) (q := 640) (r := 512) x2) b g d) : ℝ) : EReal) := by
  subst h0 h1 h2
  have l0 : (j 0).val < 3 := (j 0).isLt
  have l1 : (j 1).val < 8 := (j 1).isLt
  have l2 : (j 2).val < 64 := (j 2).isLt
  rw [val_main_v95_apply, val_main_v94_apply, val_main_v93_apply, val_main_cst_31_apply, v_exp h _ (b := (j 0).val) (g := (j 1).val) (d := (j 2).val)
    (by show (((j 0).val * 8 + (j 1).val) * 64 + (j 2).val) / 512 = _; omega)
    (by show (((j 0).val * 8 + (j 1).val) * 64 + (j 2).val) / 64 % 8 = _; omega)
    (by show (((j 0).val * 8 + (j 1).val) * 64 + (j 2).val) % 64 = _; omega)]
  exact rP_coe _

/-- and the codes. -/
theorem v_codes (i : S3x640x8x64.Idx) {b s g d : ℕ} (h0 : (i 0).val = b) (h1 : (i 1).val = s) (h2 : (i 2).val = g) (h3 : (i 3).val = d) (hs : s < 640) :
    val_main_v92 (F := Ideal) x2 i = ((qcd (vf (rd3 (p := 3) (q := 640) (r := 512) x2) b g d) ⟨s, hs⟩ : ℝ) : EReal) := by
  rw [val_main_v92_apply, val_main_v90_apply, val_main_v89_apply, val_main_v91_apply, val_main_v88_apply, val_main_v87_apply, val_main_v86_apply, val_main_v85_apply, val_main_v84_apply, val_main_cst_28_apply, val_main_cst_29_apply, val_main_cst_30_apply,
    v_x h _ h0 h1 h2 h3, v_exp h _ h0 h2 h3]
  exact rC_coe _ _

end

end Cert.ReferenceIdeal.Hand

end

end
-- ==== Proof.RefAttn.lean ====
/- The reference's attention read over the reals, the quantiser of its output, and its eight results. -/
module

public import proofs.«01_k».proof.Proof.RefQuant

@[expose] public section

set_option maxRecDepth 16384

noncomputable section

namespace Cert.ReferenceIdeal.Hand

open Cert.ReferenceIdeal Cert.ReferenceIdeal.Gen Cert.ReferenceIdeal.Read Cert.Model
open Idealize.ShloMosaic Idealize.ShloMosaic.TcCoe

theorem ofBits_eighth : Ideal.ofBits .f32 0x3E000000#32 = ((1 / 8 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_256th : Ideal.ofBits .f32 0x3B800000#32 = ((1 / 256 : ℝ) : EReal) := by
  simp [Ideal.ofBits, Ideal.ieee, -EReal.coe_mul]; norm_num

/-- The arguments, over the reals. -/
abbrev rX (x0 : (⟨S3x640x2560, .bf16⟩ : BufTy).Contents (Elt Ideal)) : ℕ → ℕ → ℕ → ℝ := rd3 (p := 3) (q := 640) (r := 2560) x0
abbrev rK (x1 : (⟨S3x640x512, .bf16⟩ : BufTy).Contents (Elt Ideal)) : ℕ → ℕ → ℕ → ℝ := rd3 (p := 3) (q := 640) (r := 512) x1

variable {x0 : (⟨S3x640x2560, .bf16⟩ : BufTy).Contents (Elt Ideal)} {x1 x2 : (⟨S3x640x512, .bf16⟩ : BufTy).Contents (Elt Ideal)}
variable (hx : Bounded (s := ⟨3, ![3, 640, 2560]⟩) x0) (hk : Bounded (s := ⟨3, ![3, 640, 512]⟩) x1) (hv : Bounded (s := ⟨3, ![3, 640, 512]⟩) x2)

/-- The scale and the codes of query head `5 * g + r` at position `q` of batch `b`, and those of the keys and the values of head `g`. -/
abbrev cQ (x0 : (⟨S3x640x2560, .bf16⟩ : BufTy).Contents (Elt Ideal)) (b q g r : ℕ) : Fin 64 → ℝ := qcd (qf (rX x0) b q (5 * g + r))
abbrev sQ (x0 : (⟨S3x640x2560, .bf16⟩ : BufTy).Contents (Elt Ideal)) (b q g r : ℕ) : ℝ := qsc (qf (rX x0) b q (5 * g + r))
abbrev cK (x1 : (⟨S3x640x512, .bf16⟩ : BufTy).Contents (Elt Ideal)) (b g : ℕ) : Fin 640 → Fin 64 → ℝ := fun j => qcd (qf (rK x1) b j.val g)
abbrev sK' (x1 : (⟨S3x640x512, .bf16⟩ : BufTy).Contents (Elt Ideal)) (b g : ℕ) : Fin 640 → ℝ := fun j => qsc (qf (rK x1) b j.val g)
abbrev cV (x2 : (⟨S3x640x512, .bf16⟩ : BufTy).Contents (Elt Ideal)) (b g : ℕ) : Fin 640 → Fin 64 → ℝ := fun j d => qcd (vf (rK x2) b g d.val) j
abbrev sV (x2 : (⟨S3x640x512, .bf16⟩ : BufTy).Contents (Elt Ideal)) (b g : ℕ) : Fin 64 → ℝ := fun d => qsc (vf (rK x2) b g d.val)

section

include hx

theorem v97_at (i : S3x8x5x640x64.Idx) {b g r q : ℕ} {d : Fin 64} (h0 : (i 0).val = b) (h1 : (i 1).val = g) (h2 : (i 2).val = r) (h3 : (i 3).val = q)
    (h4 : (i 4).val = d.val) : val_main_v97 (F := Ideal) x0 i = ((cQ x0 b q g r d : ℝ) : EReal) := by
  subst h0 h1 h2 h3
  have l0 : (i 0).val < 3 := (i 0).isLt
  have l1 : (i 1).val < 8 := (i 1).isLt
  have l2 : (i 2).val < 5 := (i 2).isLt
  have l3 : (i 3).val < 640 := (i 3).isLt
  have l4 : (i 4).val < 64 := (i 4).isLt
  rw [val_main_v97_apply, val_main_v96_apply]
  exact q_codes hx _
    (by show (((((i 0).val * 640 + (i 3).val) * 8 + (i 1).val) * 5 + (i 2).val) * 64 + (i 4).val) / 1638400 = _; omega)
    (by show (((((i 0).val * 640 + (i 3).val) * 8 + (i 1).val) * 5 + (i 2).val) * 64 + (i 4).val) / 2560 % 640 = _; omega)
    (by show (((((i 0).val * 640 + (i 3).val) * 8 + (i 1).val) * 5 + (i 2).val) * 64 + (i 4).val) / 64 % 40 = _; omega)
    (by show (((((i 0).val * 640 + (i 3).val) * 8 + (i 1).val) * 5 + (i 2).val) * 64 + (i 4).val) % 64 = _; omega) d.isLt

theorem v99_at (i : S3x8x5x640.Idx) {b g r q : ℕ} (h0 : (i 0).val = b) (h1 : (i 1).val = g) (h2 : (i 2).val = r) (h3 : (i 3).val = q) :
    val_main_v99 (F := Ideal) x0 i = ((sQ x0 b q g r : ℝ) : EReal) := by
  subst h0 h1 h2 h3
  have l0 : (i 0).val < 3 := (i 0).isLt
  have l1 : (i 1).val < 8 := (i 1).isLt
  have l2 : (i 2).val < 5 := (i 2).isLt
  have l3 : (i 3).val < 640 := (i 3).isLt
  rw [val_main_v99_apply, val_main_v98_apply]
  exact q_scale hx _
    (by show ((((i 0).val * 640 + (i 3).val) * 8 + (i 1).val) * 5 + (i 2).val) / 25600 = _; omega)
    (by show ((((i 0).val * 640 + (i 3).val) * 8 + (i 1).val) * 5 + (i 2).val) / 40 % 640 = _; omega)
    (by show ((((i 0).val * 640 + (i 3).val) * 8 + (i 1).val) * 5 + (i 2).val) % 40 = _; omega)

include hk

theorem v107_at (i : S3x8x5x640x640.Idx) {b g r q : ℕ} {j : Fin 640} (h0 : (i 0).val = b) (h1 : (i 1).val = g) (h2 : (i 2).val = r) (h3 : (i 3).val = q)
    (h4 : (i 4).val = j.val) :
    val_main_v107 (F := Ideal) x0 x1 i = ((∑ d, cQ x0 b q g r d * cK x1 b g j d : ℝ) : EReal) := by
  rw [val_main_v107_apply, coe_sum]
  refine Finset.sum_congr rfl fun d _ => ?_
  rw [v97_at hx _ (d := d) h0 h1 h2 h3 rfl, val_main_v100_apply, k_codes hk _ h0 h4 h1 rfl d.isLt, EReal.coe_mul]

theorem v112_at (i : S3x8x5x640x640.Idx) {b g r q : ℕ} {j : Fin 640} (h0 : (i 0).val = b) (h1 : (i 1).val = g) (h2 : (i 2).val = r) (h3 : (i 3).val = q)
    (h4 : (i 4).val = j.val) :
    val_main_v112 (F := Ideal) x0 x1 i = ((sc (cQ x0 b q g r) (sQ x0 b q g r) (cK x1 b g) (sK' x1 b g) j : ℝ) : EReal) := by
  rw [val_main_v112_apply, val_main_v110_apply, val_main_v109_apply, val_main_v108_apply, val_main_v111_apply, val_main_v105_apply, val_main_v103_apply,
    val_main_v102_apply, val_main_v104_apply, val_main_cst_32_apply, v107_at hx hk i h0 h1 h2 h3 h4, v99_at hx _ h0 h1 h2 h3, k_scale hk _ h0 h4 h1,
    Ideal.mulf_def, Ideal.mulf_def, Ideal.mulf_def, Ideal.ofBits_def, ofBits_eighth, ← EReal.coe_mul, ← EReal.coe_mul, ← EReal.coe_mul]
  refine congrArg _ ?_
  unfold sc sK
  rw [Finset.sum_congr rfl fun d _ => mul_comm (cK x1 b g j d) (cQ x0 b q g r d)]
  ring

theorem v113_at (i : S3x8x5x640.Idx) {b g r q : ℕ} (h0 : (i 0).val = b) (h1 : (i 1).val = g) (h2 : (i 2).val = r) (h3 : (i 3).val = q) :
    val_main_v113 (F := Ideal) x0 x1 i = ((top (sc (cQ x0 b q g r) (sQ x0 b q g r) (cK x1 b g) (sK' x1 b g)) : ℝ) : EReal) := by
  refine (Host.reduce_eq_fold _ _ _ _ _ _).trans ?_
  rw [Shape.ReducesTo.fold_fiber_r5_a4]
  show (Finset.univ : Finset (Fin 640)).fold max (Ideal.ofBits .f32 0xFF800000#32) _ = _
  rw [ofBits_ninf]
  exact fold_top _ _ fun k => v112_at hx hk _ h0 h1 h2 h3 rfl

theorem v117_at (i : S3x8x5x640x640.Idx) {b g r q : ℕ} {j : Fin 640} (h0 : (i 0).val = b) (h1 : (i 1).val = g) (h2 : (i 2).val = r) (h3 : (i 3).val = q)
    (h4 : (i 4).val = j.val) :
    val_main_v117 (F := Ideal) x0 x1 i = ((wt (cQ x0 b q g r) (sQ x0 b q g r) (cK x1 b g) (sK' x1 b g) j : ℝ) : EReal) := by
  rw [val_main_v117_apply, val_main_v116_apply, val_main_v115_apply, val_main_v114_apply, v112_at hx hk i h0 h1 h2 h3 h4, v113_at hx hk _ h0 h1 h2 h3,
    Ideal.subf_def, ← EReal.coe_sub, Ideal.hostUnary_exp_def, Ideal.exp_coe]
  rfl

theorem v118_at (i : S3x8x5x640.Idx) {b g r q : ℕ} (h0 : (i 0).val = b) (h1 : (i 1).val = g) (h2 : (i 2).val = r) (h3 : (i 3).val = q) :
    val_main_v118 (F := Ideal) x0 x1 i = ((ws (cQ x0 b q g r) (sQ x0 b q g r) (cK x1 b g) (sK' x1 b g) : ℝ) : EReal) := by
  rw [val_main_v118_apply, val_main_cst_34_apply, Ideal.ofBits_def, Ideal.ofBits_zero_f32, zero_add]
  unfold ws
  rw [coe_sum]
  exact Finset.sum_congr rfl fun j _ => v117_at hx hk _ h0 h1 h2 h3 rfl

theorem v124_at (i : S3x8x5x640x640.Idx) {b g r q : ℕ} {j : Fin 640} (h0 : (i 0).val = b) (h1 : (i 1).val = g) (h2 : (i 2).val = r) (h3 : (i 3).val = q)
    (h4 : (i 4).val = j.val) :
    val_main_v124 (F := Ideal) x0 x1 i = ((wt (cQ x0 b q g r) (sQ x0 b q g r) (cK x1 b g) (sK' x1 b g) j * 256 : ℝ) : EReal) := by
  rw [val_main_v124_apply, val_main_v122_apply, val_main_v120_apply, val_main_v119_apply, val_main_v121_apply, val_main_v123_apply, val_main_cst_35_apply,
    val_main_cst_36_apply, val_main_cst_37_apply, v117_at hx hk i h0 h1 h2 h3 h4, Ideal.minimumf_def, Ideal.maximumf_def, Ideal.mulf_def, Ideal.ofBits_def,
    Ideal.ofBits_def, Ideal.ofBits_def, ofBits_256, ofBits_448, Ideal.ofBits_zero_f32, ← EReal.coe_mul, ← EReal.coe_zero, ← coe_max, ← coe_min, min_comm,
    max_comm, clip_wt]

include hv

theorem v125_at (i : S3x8x5x640x64.Idx) {b g r q : ℕ} {d : Fin 64} (h0 : (i 0).val = b) (h1 : (i 1).val = g) (h2 : (i 2).val = r) (h3 : (i 3).val = q)
    (h4 : (i 4).val = d.val) :
    val_main_v125 (F := Ideal) x0 x1 x2 i = ((wv (cQ x0 b q g r) (sQ x0 b q g r) (cK x1 b g) (sK' x1 b g) (cV x2 b g) d : ℝ) : EReal) := by
  rw [val_main_v125_apply]
  unfold wv
  rw [coe_sum]
  refine Finset.sum_congr rfl fun j _ => ?_
  rw [v124_at hx hk _ (j := j) h0 h1 h2 h3 rfl, val_main_v101_apply, v_codes hv _ h0 rfl h1 h4 j.isLt, ← EReal.coe_mul, mul_comm]

theorem v132_at (i : S3x8x5x640x64.Idx) {b g r q : ℕ} {d : Fin 64} (h0 : (i 0).val = b) (h1 : (i 1).val = g) (h2 : (i 2).val = r) (h3 : (i 3).val = q)
    (h4 : (i 4).val = d.val) :
    val_main_v132 (F := Ideal) x0 x1 x2 i = ((oh (cQ x0 b q g r) (sQ x0 b q g r) (cK x1 b g) (sK' x1 b g) (cV x2 b g) (sV x2 b g) d : ℝ) : EReal) := by
  rw [val_main_v132_apply, val_main_v129_apply, val_main_v128_apply, val_main_v127_apply, val_main_v126_apply, val_main_v106_apply, val_main_v131_apply,
    val_main_v130_apply, val_main_cst_38_apply, v125_at hx hk hv i h0 h1 h2 h3 h4, v118_at hx hk _ h0 h1 h2 h3, v_scale hv _ h0 h1 h4, Ideal.mulf_def,
    Ideal.mulf_def, Ideal.ofBits_def, ofBits_256th, ← EReal.coe_mul, ← EReal.coe_mul, Ideal.hostDivf_def, Ideal.div_coe (ws_pos _ _ _ _).ne', ← EReal.coe_mul,
    mul_one_div]
  rfl

/-- The attention's result at one position. -/
theorem o_x (i : S3x640x2560.Idx) {b s n : ℕ} (h0 : (i 0).val = b) (h1 : (i 1).val = s) (h2 : (i 2).val = n) (hn : n < 2560) :
    val_main_v134 (F := Ideal) x0 x1 x2 i = ((oF (rX x0) (rK x1) (rK x2) b s ⟨n, hn⟩ : ℝ) : EReal) := by
  have l0 : (i 0).val < 3 := (i 0).isLt
  have l1 : (i 1).val < 640 := (i 1).isLt
  rw [val_main_v134_apply, val_main_v133_apply,
    v132_at hx hk hv _ (b := b) (q := s) (g := n / 64 / 5) (r := n / 64 % 5) (d := ⟨n % 64, Nat.mod_lt _ (by decide)⟩)
      (by show (((i 0).val * 640 + (i 1).val) * 2560 + (i 2).val) / 1638400 = _; omega)
      (by show (((i 0).val * 640 + (i 1).val) * 2560 + (i 2).val) / 320 % 8 = _; omega)
      (by show (((i 0).val * 640 + (i 1).val) * 2560 + (i 2).val) / 64 % 5 = _; omega)
      (by show (((i 0).val * 640 + (i 1).val) * 2560 + (i 2).val) / 2560 % 640 = _; omega)
      (by show (((i 0).val * 640 + (i 1).val) * 2560 + (i 2).val) % 64 = n % 64; omega)]
  have e : 5 * (n / 64 / 5) + n / 64 % 5 = n / 64 := by omega
  unfold cQ sQ
  rw [e]
  rfl

end

/-! ## The output -/

theorem o_e (i : S3x640x1.Idx) : val_main_v152 (F := Ideal) x0 x1 x2 i = rE (val_main_v137 (F := Ideal) x0 x1 x2 i) := by
  rw [val_main_v152_apply, val_main_v148_apply, val_main_v147_apply, val_main_v149_apply, val_main_v151_apply, val_main_v150_apply, val_main_v146_apply, val_main_v145_apply, val_main_v144_apply, val_main_v143_apply, val_main_v142_apply, val_main_v141_apply,
    val_main_v140_apply, val_main_v139_apply, val_main_v138_apply, val_main_cst_40_apply, val_main_cst_41_apply, val_main_cst_42_apply, val_main_cst_43_apply, val_main_cst_44_apply, val_main_cst_45_apply]
  generalize val_main_v137 (F := Ideal) x0 x1 x2 i = y
  unfold rE
  simp only [Ideal.cmpf_def, Ideal.maximumf_def, Ideal.addf_def, Ideal.mulf_def, Ideal.hostDivf_def, Ideal.hostUnary_floor_def, Ideal.hostUnary_log_def, Ideal.ofBits_def]

section

include hx hk hv

theorem o_a (j : S3x640.Idx) {b s : ℕ} (h0 : (j 0).val = b) (h1 : (j 1).val = s) :
    val_main_v136 (F := Ideal) x0 x1 x2 j = ((amax (oF (rX x0) (rK x1) (rK x2) b s) : ℝ) : EReal) := by
  subst h0 h1
  refine (Host.reduce_eq_fold _ _ _ _ _ _).trans ?_
  rw [Shape.ReducesTo.fold_fiber_r3_a2]
  show (Finset.univ : Finset (Fin 2560)).fold max (Ideal.ofBits .f32 0xFF800000#32) _ = _
  rw [ofBits_ninf]
  refine fold_top _ _ fun k => ?_
  show max (val_main_v134 (F := Ideal) x0 x1 x2 _) (-(val_main_v134 (F := Ideal) x0 x1 x2 _)) = _
  rw [o_x hx hk hv _ rfl rfl rfl k.isLt, coe_abs]
  rfl

theorem o_exp (i : S3x640x1.Idx) {b s : ℕ} (h0 : (i 0).val = b) (h1 : (i 1).val = s) :
    val_main_v152 (F := Ideal) x0 x1 x2 i = (((qe (oF (rX x0) (rK x1) (rK x2) b s) : ℤ) : ℝ) : EReal) := by
  rw [o_e, val_main_v137_apply, o_a hx hk hv _ h0 h1, rE_coe (amax_nonneg _)]
  rfl

/-! ## The results -/

theorem res_out : val_main_v165 (F := Ideal) x0 x1 x2 = gOut (rX x0) (rK x1) (rK x2) := by
  funext i
  rw [val_main_v165_apply, val_main_v161_apply, val_main_v159_apply, val_main_v158_apply, val_main_v160_apply, val_main_v157_apply, val_main_v156_apply, val_main_v155_apply, val_main_v154_apply, val_main_v153_apply, val_main_cst_46_apply, val_main_cst_47_apply, val_main_cst_48_apply,
    o_x hx hk hv _ rfl rfl rfl (i 2).isLt, o_exp hx hk hv _ rfl rfl]
  exact rC_coe _ _

theorem res_osc : val_main_v164 (F := Ideal) x0 x1 x2 = gOsc (rX x0) (rK x1) (rK x2) := by
  funext j
  have l0 : (j 0).val < 3 := (j 0).isLt
  have l1 : (j 1).val < 640 := (j 1).isLt
  rw [val_main_v164_apply, val_main_v163_apply, val_main_v162_apply, val_main_cst_49_apply, o_exp hx hk hv _ (b := (j 0).val) (s := (j 1).val)
    (by show ((j 0).val * 640 + (j 1).val) / 640 = _; omega)
    (by show ((j 0).val * 640 + (j 1).val) / 1 % 640 = _; omega)]
  exact rP_coe _

end

include hx in
theorem res_qt : val_main_v168 (F := Ideal) x0 = gQt (rX x0) := by
  funext i
  have l0 : (i 0).val < 3 := (i 0).isLt
  have l1 : (i 1).val < 2560 := (i 1).isLt
  have l2 : (i 2).val < 640 := (i 2).isLt
  rw [val_main_v168_apply, val_main_v167_apply, val_main_v166_apply, Ideal.hostConvertf_def]
  exact q_codes hx _
    (by show (((i 0).val * 640 + (i 2).val) * 2560 + (i 1).val) / 1638400 = (i 0).val; omega)
    (by show (((i 0).val * 640 + (i 2).val) * 2560 + (i 1).val) / 2560 % 640 = (i 2).val; omega)
    (by show (((i 0).val * 640 + (i 2).val) * 2560 + (i 1).val) / 64 % 40 = (i 1).val / 64; omega)
    (by show (((i 0).val * 640 + (i 2).val) * 2560 + (i 1).val) % 64 = (i 1).val % 64; omega) (Nat.mod_lt _ (by decide))

include hx in
theorem res_qsc : val_main_v169 (F := Ideal) x0 = gQsc (rX x0) := by
  funext i
  rw [val_main_v169_apply]
  exact q_scale hx _ rfl rfl rfl

include hk in
theorem res_kt : val_main_v172 (F := Ideal) x1 = gQt (rK x1) := by
  funext i
  have l0 : (i 0).val < 3 := (i 0).isLt
  have l1 : (i 1).val < 512 := (i 1).isLt
  have l2 : (i 2).val < 640 := (i 2).isLt
  rw [val_main_v172_apply, val_main_v171_apply, val_main_v170_apply, Ideal.hostConvertf_def]
  exact k_codes hk _
    (by show (((i 0).val * 640 + (i 2).val) * 512 + (i 1).val) / 327680 = (i 0).val; omega)
    (by show (((i 0).val * 640 + (i 2).val) * 512 + (i 1).val) / 512 % 640 = (i 2).val; omega)
    (by show (((i 0).val * 640 + (i 2).val) * 512 + (i 1).val) / 64 % 8 = (i 1).val / 64; omega)
    (by show (((i 0).val * 640 + (i 2).val) * 512 + (i 1).val) % 64 = (i 1).val % 64; omega) (Nat.mod_lt _ (by decide))

include hk in
theorem res_ksc : val_main_v173 (F := Ideal) x1 = gQsc (rK x1) := by
  funext i
  rw [val_main_v173_apply]
  exact k_scale hk _ rfl rfl rfl

include hv in
theorem res_vt : val_main_v176 (F := Ideal) x2 = gVt (rK x2) := by
  funext i
  have l0 : (i 0).val < 3 := (i 0).isLt
  have l1 : (i 1).val < 512 := (i 1).isLt
  have l2 : (i 2).val < 640 := (i 2).isLt
  rw [val_main_v176_apply, val_main_v175_apply, val_main_v174_apply, Ideal.hostConvertf_def]
  exact v_codes hv _
    (by show (((i 0).val * 640 + (i 2).val) * 512 + (i 1).val) / 327680 = (i 0).val; omega)
    (by show (((i 0).val * 640 + (i 2).val) * 512 + (i 1).val) / 512 % 640 = (i 2).val; omega)
    (by show (((i 0).val * 640 + (i 2).val) * 512 + (i 1).val) / 64 % 8 = (i 1).val / 64; omega)
    (by show (((i 0).val * 640 + (i 2).val) * 512 + (i 1).val) % 64 = (i 1).val % 64; omega) (i 2).isLt

include hv in
theorem res_vsc : val_main_v95 (F := Ideal) x2 = gVsc (rK x2) := by
  funext i
  exact v_scale hv _ rfl rfl rfl

end Cert.ReferenceIdeal.Hand

end

end
-- ==== Proof.lean ====
/- The proof of the certificate's claim: the frames of the three programs, the two constants, and the eight results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre__finite_inputs
public import proofs.«01_k».proof.Proof.KFrame
public import proofs.«01_k».proof.Proof.KiResults
public import proofs.«01_k».proof.Proof.RefAttn
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Model

/-! ## The precondition -/

/-- What one comparison of the precondition says of an array: every entry is a number. -/
theorem bounded_of_ones {s : Shape} (x : FVec Ideal s .bf16) (b : FVec Ideal s .bf16) (hb : ∀ i, b i = Ideal.ofBits .bf16 0x7F7F#16)
    (h : cmpf .ole (Host.absf x) b = fun _ => 1#1) : Bounded (s := s) x := by
  intro i
  have e : Ideal.cmp .ole (max (x i) (-x i)) (b i) = 1#1 := congrFun h i
  rw [hb, ofBits_big] at e
  by_contra hc
  simp [Ideal.cmp, hc] at e

theorem fin3 (m : (ℓ : Loc Cert.KernelIdeal.nD Cert.KernelIdeal.τ Cert.KernelIdeal.sig) → Buf (Elt Ideal) ℓ)
    (h : Cert.Pre_KernelIdeal__finite_inputs m) (c : Dev Cert.KernelIdeal.nD) : Cert.KernelIdeal.Hand.Fin3 m c :=
  ⟨bounded_of_ones (s := ⟨3, ![3, 640, 2560]⟩) _ _ (fun _ => rfl) (h c).1,
    bounded_of_ones (s := ⟨3, ![3, 640, 512]⟩) _ _ (fun _ => rfl) (h c).2.1,
    bounded_of_ones (s := ⟨3, ![3, 640, 512]⟩) _ _ (fun _ => rfl) (h c).2.2⟩

/-! ## The reference -/

section Reference

open Cert.ReferenceIdeal Cert.ReferenceIdeal.Read Cert.ReferenceIdeal.Hand Idealize.ShloMosaic.StableHlo

variable (m : (ℓ : Loc nD τ sig) → Buf (Elt Ideal) ℓ) (ρ : Dev nD → PrngReg)

/-- The reference runs and leaves its arguments; it has no semaphore. -/
theorem ref_frame : θ_run defs (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun r h => ⟨fun c => (h c).2.2.2.2.2.2.2.2, sem_eq_zero_of_no_sems rfl r.2⟩) (Cert.ReferenceIdeal.Value.run m ρ)

/-- The reference's results, of three arrays that it finds in its arguments. -/
theorem ref_results (X : (c : Dev nD) → (⟨S3x640x2560, .bf16⟩ : BufTy).Contents (Elt Ideal)) (K V : (c : Dev nD) → (⟨S3x640x512, .bf16⟩ : BufTy).Contents (Elt Ideal))
    (hX : ∀ c : Dev nD, m ((c.tc : Thread nD τ).loc main_arg0) = X c) (hK : ∀ c : Dev nD, m ((c.tc : Thread nD τ).loc main_arg1) = K c)
    (hV : ∀ c : Dev nD, m ((c.tc : Thread nD τ).loc main_arg2) = V c)
    (bX : ∀ c, Bounded (s := ⟨3, ![3, 640, 2560]⟩) (X c)) (bK : ∀ c, Bounded (s := ⟨3, ![3, 640, 512]⟩) (K c)) (bV : ∀ c, Bounded (s := ⟨3, ![3, 640, 512]⟩) (V c)) :
    θ_run defs (onTc (τ := τ) (main (F := Ideal))) ⟨m, fun _ => 0, ρ⟩ (fun r => ∀ c : Dev nD,
      r.2.mem ((c.tc : Thread nD τ).loc main_v165) = gOut (rX (X c)) (rK (K c)) (rK (V c))
      ∧ r.2.mem ((c.tc : Thread nD τ).loc main_v164) = gOsc (rX (X c)) (rK (K c)) (rK (V c))
      ∧ r.2.mem ((c.tc : Thread nD τ).loc main_v168) = gQt (n := 2560) (rX (X c))
      ∧ r.2.mem ((c.tc : Thread nD τ).loc main_v169) = gQsc (n := 40) (rX (X c))
      ∧ r.2.mem ((c.tc : Thread nD τ).loc main_v172) = gQt (n := 512) (rK (K c))
      ∧ r.2.mem ((c.tc : Thread nD τ).loc main_v173) = gQsc (n := 8) (rK (K c))
      ∧ r.2.mem ((c.tc : Thread nD τ).loc main_v176) = gVt (rK (V c))
      ∧ r.2.mem ((c.tc : Thread nD τ).loc main_v95) = gVsc (rK (V c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨h0, h1, h2, h3, h4, h5, h6, h7, ha⟩ := h c
  refine ⟨?_, ?_, ?_, ?_, ?_, ?_, ?_, ?_, ha⟩
  · refine (h0.trans (val_main_v165_eq (launchContents m c))).trans ?_
    rw [launchContents_devRef, launchContents_devRef, launchContents_devRef, hX, hK, hV]
    exact res_out (bX c) (bK c) (bV c)
  · refine (h1.trans (val_main_v164_eq (launchContents m c))).trans ?_
    rw [launchContents_devRef, launchContents_devRef, launchContents_devRef, hX, hK, hV]
    exact res_osc (bX c) (bK c) (bV c)
  · refine (h2.trans (val_main_v168_eq (launchContents m c))).trans ?_
    rw [launchContents_devRef, hX]
    exact res_qt (bX c)
  · refine (h3.trans (val_main_v169_eq (launchContents m c))).trans ?_
    rw [launchContents_devRef, hX]
    exact res_qsc (bX c)
  · refine (h4.trans (val_main_v172_eq (launchContents m c))).trans ?_
    rw [launchContents_devRef, hK]
    exact res_kt (bK c)
  · refine (h5.trans (val_main_v173_eq (launchContents m c))).trans ?_
    rw [launchContents_devRef, hK]
    exact res_ksc (bK c)
  · refine (h6.trans (val_main_v176_eq (launchContents m c))).trans ?_
    rw [launchContents_devRef, hV]
    exact res_vt (bV c)
  · refine (h7.trans (val_main_v95_eq (launchContents m c))).trans ?_
    rw [launchContents_devRef, hV]
    exact res_vsc (bV c)

end Reference

/-! ## The claim -/

theorem preserves : Cert.preserves_Kernel_KernelIdeal :=
  ⟨IdealRules.named_const.statement _ _ _ _ _ rfl, IdealRules.named_const.statement _ _ _ _ _ rfl⟩

section Algebraic

open Cert.KernelIdeal.Hand

theorem algebraic : Cert.algebraic_KernelIdeal_ReferenceIdeal_pre__finite_inputs := by
  intro m g m' g' hp hm
  have hf := fin3 m hp
  refine ⟨fun c => gOut (aX m c) (aK m c) (aV m c), fun c => gOsc (aX m c) (aK m c) (aV m c), fun c => gQt (n := 2560) (aX m c), fun c => gQsc (n := 40) (aX m c),
    fun c => gQt (n := 512) (aK m c), fun c => gQsc (n := 8) (aK m c), fun c => gVt (aV m c), fun c => gVsc (aV m c), ?_, ?_⟩
  · refine (θ_run _ _ _).mono (fun r h c => ?_) (run_results m g hf)
    obtain ⟨⟨h0, h1, h2, h3, h4, h5, h6, h7⟩, ha⟩ := h.1 c
    exact ⟨h0, h1, h2, h3, h4, h5, h6, h7, ha⟩
  · exact ref_results m' g' _ _ _ (fun c => (hm c).1) (fun c => (hm c).2.1) (fun c => (hm c).2.2) (fun c => (hf c).x) (fun c => (hf c).k) (fun c => (hf c).v)

end Algebraic

theorem claim : Cert.Claim :=
  ⟨Cert.Kernel.Gen.facts, Cert.KernelIdeal.Gen.facts, Cert.ReferenceIdeal.Gen.facts, Cert.Pre__finite_inputs.Gen.facts,
    fun m ρ _ => Cert.Kernel.Hand.frame m ρ, fun m ρ _ => Cert.KernelIdeal.Hand.frame m ρ, fun m ρ _ => Cert.KernelIdeal.Hand.frame m ρ,
    fun m ρ _ => ref_frame m ρ, fun m ρ _ => ref_frame m ρ, preserves, algebraic⟩

end Cert.Proof

end
